-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S2x32x32x32 : Shape := ⟨4, ![2, 32, 32, 32]⟩
abbrev S1024x32 : Shape := ⟨2, ![1024, 32]⟩
abbrev S_ : Shape := ⟨0, ![]⟩

class Facts : Prop where
  bcast_S_S2x32x32x32 : S_.BroadcastsInDim S2x32x32x32 (![] : Fin 0 → Fin S2x32x32x32.rank)
  reducesTo_S2x32x32x32_S_d0_1_2_3 : S2x32x32x32.ReducesTo [0, 1, 2, 3] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S2x32x32x32 .f32) (main_arg1 : FVec F S1024x32 .f32) : IVec S_ 1 :=
  let main_v0 : FVec F S2x32x32x32 .f32 := Host.absf main_arg0
  let main_cst : FVec F S_ .f32 := constant S_ .f32 0x7F800000#32
  let main_v1 : FVec F S2x32x32x32 .f32 := broadcastInDim S2x32x32x32 ![] bcast_S_S2x32x32x32 main_cst
  let main_v2 : IVec S2x32x32x32 1 := cmpf .olt main_v0 main_v1
  let main_c : IVec S_ 1 := constantI S_ 1 1#1
  let main_v3 : IVec S_ 1 := (fun x v => Host.reduce IntOp.andi x v reducesTo_S2x32x32x32_S_d0_1_2_3 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  main_v8
-- ==== Kernel.lean ====
abbrev S2x32x32x32 : Shape := ⟨4, ![2, 32, 32, 32]⟩
abbrev S1024x32 : Shape := ⟨2, ![1024, 32]⟩
abbrev S2048x32 : Shape := ⟨2, ![2048, 32]⟩
abbrev S32x2048 : Shape := ⟨2, ![32, 2048]⟩
abbrev S32x1024 : Shape := ⟨2, ![32, 1024]⟩
abbrev S2x1x1024 : Shape := ⟨3, ![2, 1, 1024]⟩
abbrev S2x1x128 : Shape := ⟨3, ![2, 1, 128]⟩
abbrev S1x1 : Shape := ⟨2, ![1, 1]⟩
abbrev S256 : Shape := ⟨1, ![256]⟩
abbrev S2048 : Shape := ⟨1, ![2048]⟩
abbrev S2048x1 : Shape := ⟨2, ![2048, 1]⟩
abbrev S_ : Shape := ⟨0, ![]⟩
abbrev S1x1x1024 : Shape := ⟨3, ![1, 1, 1024]⟩
abbrev S1x1x128 : Shape := ⟨3, ![1, 1, 128]⟩
abbrev S1x1024 : Shape := ⟨2, ![1, 1024]⟩
abbrev S1024x128 : Shape := ⟨2, ![1024, 128]⟩
abbrev S1024 : Shape := ⟨1, ![1024]⟩
abbrev S1024x1024 : Shape := ⟨2, ![1024, 1024]⟩
abbrev S1024x1 : Shape := ⟨2, ![1024, 1]⟩
abbrev S8x1024 : Shape := ⟨2, ![8, 1024]⟩
abbrev S4x1024 : Shape := ⟨2, ![4, 1024]⟩
abbrev S2x1024 : Shape := ⟨2, ![2, 1024]⟩
abbrev S1x128 : Shape := ⟨2, ![1, 128]⟩
abbrev S128 : Shape := ⟨1, ![128]⟩
abbrev S1 : Shape := ⟨1, ![1]⟩
abbrev S1x32 : Shape := ⟨2, ![1, 32]⟩
abbrev S8x32 : Shape := ⟨2, ![8, 32]⟩
abbrev S8x32x1 : Shape := ⟨3, ![8, 32, 1]⟩
abbrev S1x32x1024 : Shape := ⟨3, ![1, 32, 1024]⟩
abbrev S8x32x1024 : Shape := ⟨3, ![8, 32, 1024]⟩
abbrev S8x8x1024 : Shape := ⟨3, ![8, 8, 1024]⟩
abbrev S8x4x1024 : Shape := ⟨3, ![8, 4, 1024]⟩
abbrev S8x2x1024 : Shape := ⟨3, ![8, 2, 1024]⟩
abbrev S8x1x1024 : Shape := ⟨3, ![8, 1, 1024]⟩
abbrev S8 : Shape := ⟨1, ![8]⟩
abbrev S8x1 : Shape := ⟨2, ![8, 1]⟩

abbrev nBuf : Space → Nat
  | .hbm => 19
  | .vmem => 20
  | .smem => 4
  | _ => 0

abbrev bufTy : (tb : Table) → Fin (tcTables nBuf tb) → BufTy
  | .hbm, ⟨0, _⟩ => ⟨S2x32x32x32, .f32⟩
  | .hbm, ⟨1, _⟩ => ⟨S1024x32, .f32⟩
  | .hbm, ⟨2, _⟩ => ⟨S2x32x32x32, .f32⟩
  | .hbm, ⟨3, _⟩ => ⟨S2048x32, .f32⟩
  | .hbm, ⟨4, _⟩ => ⟨S32x2048, .f32⟩
  | .hbm, ⟨5, _⟩ => ⟨S32x1024, .f32⟩
  | .hbm, ⟨6, _⟩ => ⟨S2x1x1024, .i32⟩
  | .hbm, ⟨7, _⟩ => ⟨S2x1x1024, .i32⟩
  | .hbm, ⟨8, _⟩ => ⟨S2x1x128, .i32⟩
  | .hbm, ⟨9, _⟩ => ⟨S2048x32, .f32⟩
  | .hbm, ⟨10, _⟩ => ⟨S1x1, .f32⟩
  | .hbm, ⟨11, _⟩ => ⟨S2048x1, .i32⟩
  | .hbm, ⟨12, _⟩ => ⟨S2048x1, .i32⟩
  | .hbm, ⟨13, _⟩ => ⟨S2048, .i32⟩
  | .hbm, ⟨14, _⟩ => ⟨S2x32x32x32, .f32⟩
  | .hbm, ⟨15, _⟩ => ⟨S2x32x32x32, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x32, .f32⟩
  | .local _ .vmem, ⟨1, _⟩ => ⟨S1024x32, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S1x1x1024, .i32⟩
  | .local _ .vmem, ⟨6, _⟩ => ⟨S1x1x1024, .i32⟩
  | .local _ .vmem, ⟨7, _⟩ => ⟨S1x1x1024, .i32⟩
  | .local _ .vmem, ⟨8, _⟩ => ⟨S1x1x1024, .i32⟩
  | .local _ .vmem, ⟨9, _⟩ => ⟨S1x1x128, .i32⟩
  | .local _ .vmem, ⟨10, _⟩ => ⟨S1x1x128, .i32⟩
  | .local _ .vmem, ⟨11, _⟩ => ⟨S1024x32, .f32⟩
  | .local _ .vmem, ⟨12, _⟩ => ⟨S1024x32, .f32⟩
  | .local _ .vmem, ⟨13, _⟩ => ⟨S1x1, .f32⟩
  | .local _ .vmem, ⟨14, _⟩ => ⟨S1x1024, .f32⟩
  | .local _ .vmem, ⟨15, _⟩ => ⟨S1024x128, .f32⟩
  | .local _ .vmem, ⟨16, _⟩ => ⟨S2048x32, .f32⟩
  | .local _ .vmem, ⟨17, _⟩ => ⟨S32x1024, .f32⟩
  | .local _ .vmem, ⟨18, _⟩ => ⟨S2048x1, .i32⟩
  | .local _ .vmem, ⟨19, _⟩ => ⟨S2048x1, .i32⟩
  | .local _ .smem, ⟨0, _⟩ => ⟨S256, .i32⟩
  | .local _ .smem, ⟨1, _⟩ => ⟨S2048, .i32⟩
  | .local _ .smem, ⟨2, _⟩ => ⟨S1024, .i32⟩
  | .local _ .smem, ⟨3, _⟩ => ⟨S1, .i32⟩
  | _, _ => ⟨S2x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4_0 : Ref sig .tc := ⟨.hbm, 6, rfl⟩
abbrev main_call0_v4_1 : Ref sig .tc := ⟨.hbm, 7, rfl⟩
abbrev main_call0_v4_2 : Ref sig .tc := ⟨.hbm, 8, rfl⟩
abbrev main_call0_v4_3 : Ref sig .tc := ⟨.hbm, 9, rfl⟩
abbrev main_call0_v4_4 : Ref sig .tc := ⟨.hbm, 10, rfl⟩
abbrev main_call0_v7 : Ref sig .tc := ⟨.hbm, 11, rfl⟩
abbrev main_call0_v8 : Ref sig .tc := ⟨.hbm, 12, rfl⟩
abbrev main_v0_1 : Ref sig .tc := ⟨.hbm, 13, rfl⟩
abbrev main_call0_v10 : Ref sig .tc := ⟨.hbm, 14, rfl⟩
abbrev main_v0_0 : Ref sig .tc := ⟨.hbm, 15, rfl⟩
abbrev main_call0_v12 : Ref sig .tc := ⟨.hbm, 16, rfl⟩
abbrev main_call0_cst : Ref sig .tc := ⟨.hbm, 17, rfl⟩
abbrev main_v0_2 : Ref sig .tc := ⟨.hbm, 18, rfl⟩
abbrev main_call0_v5 : Ref sig .tc := ⟨.smem, 0, rfl⟩
abbrev main_call0_v6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_scratch0 : Ref sig .tc := ⟨.smem, 2, rfl⟩
abbrev cc1_scratch1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc1_sem0_0 : DmaSem sig := 14
abbrev cc1_sem1_0 : DmaSem sig := 15
abbrev cc1_sem2_0 : DmaSem sig := 16
abbrev cc1_sem3_0 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![1], ![false]⟩

abbrev pre1 : Pipeline.Prefetch sig := ⟨2, ![main_call0_v5.idx, main_call0_v6.idx], fun | 0 => main_call0_v5.names | 1 => main_call0_v6.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k1_t1_loop : Scf.Loop 32 :=
  let c0_i32_3 : BitVec 32 := 0#32
  let c256_i32 : BitVec 32 := 256#32
  let v3 : BitVec 32 := Scalar.addi c0_i32_3 c256_i32
  let c1_i32 : BitVec 32 := 1#32
  ⟨c0_i32_3, v3, c1_i32⟩
def k1_off1 (k1_t1 : Fin k1_t1_loop.trips) : Fin 1 → Nat :=
  let c0_i32_3 : BitVec 32 := 0#32
  let c1_i32 : BitVec 32 := 1#32
  let arg9 : BitVec 32 := Scf.iv c0_i32_3 c1_i32 k1_t1
  let v31 : Index := Scalar.indexCast arg9
  ![v31.toNat]
@[reducible] def k1_t2_loop (v32 : BitVec 32) : Scf.Loop 32 :=
  let c0_i32_22 : BitVec 32 := 0#32
  let c0_i32_19 : BitVec 32 := 0#32
  let v33 : BitVec 1 := Scalar.cmpi .ne v32 c0_i32_19
  let c8_i32_20 : BitVec 32 := 8#32
  let c0_i32_21 : BitVec 32 := 0#32
  let v34 : BitVec 32 := Scalar.select v33 c8_i32_20 c0_i32_21
  let v35 : BitVec 32 := Scalar.subi v34 c0_i32_22
  let c1_i32_23 : BitVec 32 := 1#32
  let v37 : BitVec 32 := Scalar.divsi v35 c1_i32_23
  let v38 : BitVec 32 := Scalar.muli v37 c1_i32_23
  let v39 : BitVec 32 := Scalar.addi c0_i32_22 v38
  let c1_i32_24 : BitVec 32 := 1#32
  ⟨c0_i32_22, v39, c1_i32_24⟩

def k1_off2 (k1_t1 : Fin k1_t1_loop.trips) (v32 : BitVec 32) (k1_t2 : Fin (k1_t2_loop v32).trips) : Fin 1 → Nat :=
  let c0_i32_3 : BitVec 32 := 0#32
  let c1_i32 : BitVec 32 := 1#32
  let arg9 : BitVec 32 := Scf.iv c0_i32_3 c1_i32 k1_t1
  let c8_i32_26 : BitVec 32 := 8#32
  let v42 : BitVec 32 := Scalar.muli arg9 c8_i32_26
  let c0_i32_22 : BitVec 32 := 0#32
  let c1_i32_24 : BitVec 32 := 1#32
  let arg11 : BitVec 32 := Scf.iv c0_i32_22 c1_i32_24 k1_t2
  let v43 : BitVec 32 := Scalar.addi v42 arg11
  let v44 : Index := Scalar.indexCast v43
  ![v44.toNat]
def k1_off3 (arg12 : BitVec 32) : Fin 1 → Nat :=
  let v54 : Index := Scalar.indexCast arg12
  ![v54.toNat]
def k1_cond1 (arg12 : BitVec 32) (v45 : BitVec 32) : BitVec 1 :=
  let c0_i32_27 : BitVec 32 := 0#32
  let v46 : BitVec 1 := Scalar.cmpi .ne v45 c0_i32_27
  let c1024_i32_28 : BitVec 32 := 1024#32
  let v47 : BitVec 1 := Scalar.cmpi .slt arg12 c1024_i32_28
  let v48 : BitVec 1 := Scalar.andi v46 v47
  let v49 : BitVec 32 := Scalar.extui v48
  let c0_i32_29 : BitVec 32 := 0#32
  let v50 : BitVec 1 := Scalar.cmpi .ne v49 c0_i32_29
  v50

def k1_chk2 (arg12 : BitVec 32) (v45 : BitVec 32) : Prop :=
  (∀ (k1_h1 : k1_cond1 arg12 v45 = 1#1), ∀ a, (k1_off3 arg12) a + S1.size a ≤ S1024.size a)
theorem k1_off3_inb : ∀ (arg12 : BitVec 32) (v45 : BitVec 32) (k1_hw2 : k1_chk2 arg12 v45), ∀ (k1_h1 : k1_cond1 arg12 v45 = 1#1), ∀ a, (k1_off3 arg12) a + S1.size a ≤ S1024.size a := fun arg12 v45 k1_hw2 k1_h1 => k1_hw2 k1_h1

@[reducible] def k1_t3_loop (v32 : BitVec 32) : Scf.Loop 32 :=
  let c0_i32_22 : BitVec 32 := 0#32
  let c0_i32_19 : BitVec 32 := 0#32
  let v33 : BitVec 1 := Scalar.cmpi .ne v32 c0_i32_19
  let c8_i32_20 : BitVec 32 := 8#32
  let c0_i32_21 : BitVec 32 := 0#32
  let v34 : BitVec 32 := Scalar.select v33 c8_i32_20 c0_i32_21
  let v35 : BitVec 32 := Scalar.subi v34 c0_i32_22
  let c1_i32_23 : BitVec 32 := 1#32
  let v37 : BitVec 32 := Scalar.divsi v35 c1_i32_23
  let v38 : BitVec 32 := Scalar.muli v37 c1_i32_23
  let v39 : BitVec 32 := Scalar.addi c0_i32_22 v38
  let v36 : BitVec 32 := Scalar.addi c0_i32_22 v35
  let c1_i32_25 : BitVec 32 := 1#32
  ⟨v39, v36, c1_i32_25⟩
def k1_off4 (k1_t1 : Fin k1_t1_loop.trips) (v32 : BitVec 32) (k1_t3 : Fin (k1_t3_loop v32).trips) : Fin 1 → Nat :=
  let c0_i32_3 : BitVec 32 := 0#32
  let c1_i32 : BitVec 32 := 1#32
  let arg9 : BitVec 32 := Scf.iv c0_i32_3 c1_i32 k1_t1
  let c8_i32_26 : BitVec 32 := 8#32
  let v42 : BitVec 32 := Scalar.muli arg9 c8_i32_26
  let c0_i32_22 : BitVec 32 := 0#32
  let c0_i32_19 : BitVec 32 := 0#32
  let v33 : BitVec 1 := Scalar.cmpi .ne v32 c0_i32_19
  let c8_i32_20 : BitVec 32 := 8#32
  let c0_i32_21 : BitVec 32 := 0#32
  let v34 : BitVec 32 := Scalar.select v33 c8_i32_20 c0_i32_21
  let v35 : BitVec 32 := Scalar.subi v34 c0_i32_22
  let c1_i32_23 : BitVec 32 := 1#32
  let v37 : BitVec 32 := Scalar.divsi v35 c1_i32_23
  let v38 : BitVec 32 := Scalar.muli v37 c1_i32_23
  let v39 : BitVec 32 := Scalar.addi c0_i32_22 v38
  let c1_i32_25 : BitVec 32 := 1#32
  let arg11 : BitVec 32 := Scf.iv v39 c1_i32_25 k1_t3
  let v43 : BitVec 32 := Scalar.addi v42 arg11
  let v44 : Index := Scalar.indexCast v43
  ![v44.toNat]

def k1_chk1 (k1_t1 : Fin k1_t1_loop.trips) (v32 : BitVec 32) : Prop :=
  ((k1_t2_loop v32).OK) ∧
  (∀ k1_t2 : Fin (k1_t2_loop v32).trips, ∀ a, (k1_off2 k1_t1 v32 k1_t2) a + S1.size a ≤ S2048.size a) ∧
  ((k1_t3_loop v32).OK) ∧
  (∀ k1_t3 : Fin (k1_t3_loop v32).trips, ∀ a, (k1_off4 k1_t1 v32 k1_t3) a + S1.size a ≤ S2048.size a)
theorem k1_t2_ok : ∀ (k1_t1 : Fin k1_t1_loop.trips) (v32 : BitVec 32) (k1_hw1 : k1_chk1 k1_t1 v32), (k1_t2_loop v32).OK := fun k1_t1 v32 k1_hw1 => k1_hw1.1
theorem k1_off2_inb : ∀ (k1_t1 : Fin k1_t1_loop.trips) (v32 : BitVec 32) (k1_hw1 : k1_chk1 k1_t1 v32) (k1_t2 : Fin (k1_t2_loop v32).trips), ∀ a, (k1_off2 k1_t1 v32 k1_t2) a + S1.size a ≤ S2048.size a := fun k1_t1 v32 k1_hw1 k1_t2 => k1_hw1.2.1 k1_t2
theorem k1_t3_ok : ∀ (k1_t1 : Fin k1_t1_loop.trips) (v32 : BitVec 32) (k1_hw1 : k1_chk1 k1_t1 v32), (k1_t3_loop v32).OK := fun k1_t1 v32 k1_hw1 => k1_hw1.2.2.1
theorem k1_off4_inb : ∀ (k1_t1 : Fin k1_t1_loop.trips) (v32 : BitVec 32) (k1_hw1 : k1_chk1 k1_t1 v32) (k1_t3 : Fin (k1_t3_loop v32).trips), ∀ a, (k1_off4 k1_t1 v32 k1_t3) a + S1.size a ≤ S2048.size a := fun k1_t1 v32 k1_hw1 k1_t3 => k1_hw1.2.2.2 k1_t3

def k1_off5 (arg12 : BitVec 32) : Fin 1 → Nat :=
  let v54 : Index := Scalar.indexCast arg12
  ![v54.toNat]
def k1_cond2 (arg12 : BitVec 32) (v45 : BitVec 32) : BitVec 1 :=
  let c0_i32_27 : BitVec 32 := 0#32
  let v46 : BitVec 1 := Scalar.cmpi .ne v45 c0_i32_27
  let c1024_i32_28 : BitVec 32 := 1024#32
  let v47 : BitVec 1 := Scalar.cmpi .slt arg12 c1024_i32_28
  let v48 : BitVec 1 := Scalar.andi v46 v47
  let v49 : BitVec 32 := Scalar.extui v48
  let c0_i32_29 : BitVec 32 := 0#32
  let v50 : BitVec 1 := Scalar.cmpi .ne v49 c0_i32_29
  v50

def k1_chk3 (arg12 : BitVec 32) (v45 : BitVec 32) : Prop :=
  (∀ (k1_h2 : k1_cond2 arg12 v45 = 1#1), ∀ a, (k1_off5 arg12) a + S1.size a ≤ S1024.size a)
theorem k1_off5_inb : ∀ (arg12 : BitVec 32) (v45 : BitVec 32) (k1_hw3 : k1_chk3 arg12 v45), ∀ (k1_h2 : k1_cond2 arg12 v45 = 1#1), ∀ a, (k1_off5 arg12) a + S1.size a ≤ S1024.size a := fun arg12 v45 k1_hw3 k1_h2 => k1_hw3 k1_h2

@[reducible] def k1_t4_loop (v4 : BitVec 32) : Scf.Loop 32 :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_17 : BitVec 32 := 1#32
  ⟨c0_i32_15, v30, c1_i32_17⟩

def k1_off6 (v4 : BitVec 32) (k1_t4 : Fin (k1_t4_loop v4).trips) (c0_i32_21 : BitVec 32) : Fin 1 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let v34 : BitVec 32 := Scalar.addi v31 c0_i32_21
  let v35 : Index := Scalar.indexCast v34
  ![v35.toNat]
def k1_off7 (v4 : BitVec 32) (k1_t4 : Fin (k1_t4_loop v4).trips) (v36 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c0_i32_20 : BitVec 32 := 0#32
  let v32 : BitVec 32 := Scalar.addi v31 c0_i32_20
  let c1024_i32 : BitVec 32 := 1024#32
  let v5 : BitVec 32 := Scalar.minsi v4 c1024_i32
  let v33 : BitVec 1 := Scalar.cmpi .slt v32 v5
  let c0_i32_22 : BitVec 32 := 0#32
  let v37 : BitVec 32 := Scalar.select v33 v36 c0_i32_22
  let v80 : Index := Scalar.indexCast v37
  let c0_38 : Index := 0#32
  ![v80.toNat, 0]

def k1_off8 (v4 : BitVec 32) (k1_t4 : Fin (k1_t4_loop v4).trips) (v42 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c1_i32_23 : BitVec 32 := 1#32
  let v38 : BitVec 32 := Scalar.addi v31 c1_i32_23
  let c1024_i32 : BitVec 32 := 1024#32
  let v5 : BitVec 32 := Scalar.minsi v4 c1024_i32
  let v39 : BitVec 1 := Scalar.cmpi .slt v38 v5
  let c0_i32_25 : BitVec 32 := 0#32
  let v43 : BitVec 32 := Scalar.select v39 v42 c0_i32_25
  let v83 : Index := Scalar.indexCast v43
  let c0_39 : Index := 0#32
  ![v83.toNat, 0]

def k1_off9 (v4 : BitVec 32) (k1_t4 : Fin (k1_t4_loop v4).trips) (v48 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c2_i32 : BitVec 32 := 2#32
  let v44 : BitVec 32 := Scalar.addi v31 c2_i32
  let c1024_i32 : BitVec 32 := 1024#32
  let v5 : BitVec 32 := Scalar.minsi v4 c1024_i32
  let v45 : BitVec 1 := Scalar.cmpi .slt v44 v5
  let c0_i32_27 : BitVec 32 := 0#32
  let v49 : BitVec 32 := Scalar.select v45 v48 c0_i32_27
  let v86 : Index := Scalar.indexCast v49
  let c0_40 : Index := 0#32
  ![v86.toNat, 0]

def k1_off10 (v4 : BitVec 32) (k1_t4 : Fin (k1_t4_loop v4).trips) (v54 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c3_i32 : BitVec 32 := 3#32
  let v50 : BitVec 32 := Scalar.addi v31 c3_i32
  let c1024_i32 : BitVec 32 := 1024#32
  let v5 : BitVec 32 := Scalar.minsi v4 c1024_i32
  let v51 : BitVec 1 := Scalar.cmpi .slt v50 v5
  let c0_i32_29 : BitVec 32 := 0#32
  let v55 : BitVec 32 := Scalar.select v51 v54 c0_i32_29
  let v89 : Index := Scalar.indexCast v55
  let c0_41 : Index := 0#32
  ![v89.toNat, 0]

def k1_off11 (v4 : BitVec 32) (k1_t4 : Fin (k1_t4_loop v4).trips) (v60 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c4_i32 : BitVec 32 := 4#32
  let v56 : BitVec 32 := Scalar.addi v31 c4_i32
  let c1024_i32 : BitVec 32 := 1024#32
  let v5 : BitVec 32 := Scalar.minsi v4 c1024_i32
  let v57 : BitVec 1 := Scalar.cmpi .slt v56 v5
  let c0_i32_31 : BitVec 32 := 0#32
  let v61 : BitVec 32 := Scalar.select v57 v60 c0_i32_31
  let v92 : Index := Scalar.indexCast v61
  let c0_42 : Index := 0#32
  ![v92.toNat, 0]

def k1_off12 (v4 : BitVec 32) (k1_t4 : Fin (k1_t4_loop v4).trips) (v66 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c5_i32 : BitVec 32 := 5#32
  let v62 : BitVec 32 := Scalar.addi v31 c5_i32
  let c1024_i32 : BitVec 32 := 1024#32
  let v5 : BitVec 32 := Scalar.minsi v4 c1024_i32
  let v63 : BitVec 1 := Scalar.cmpi .slt v62 v5
  let c0_i32_33 : BitVec 32 := 0#32
  let v67 : BitVec 32 := Scalar.select v63 v66 c0_i32_33
  let v95 : Index := Scalar.indexCast v67
  let c0_43 : Index := 0#32
  ![v95.toNat, 0]

def k1_off13 (v4 : BitVec 32) (k1_t4 : Fin (k1_t4_loop v4).trips) (v72 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c6_i32 : BitVec 32 := 6#32
  let v68 : BitVec 32 := Scalar.addi v31 c6_i32
  let c1024_i32 : BitVec 32 := 1024#32
  let v5 : BitVec 32 := Scalar.minsi v4 c1024_i32
  let v69 : BitVec 1 := Scalar.cmpi .slt v68 v5
  let c0_i32_35 : BitVec 32 := 0#32
  let v73 : BitVec 32 := Scalar.select v69 v72 c0_i32_35
  let v98 : Index := Scalar.indexCast v73
  let c0_44 : Index := 0#32
  ![v98.toNat, 0]

def k1_off14 (v4 : BitVec 32) (k1_t4 : Fin (k1_t4_loop v4).trips) (v78 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c7_i32 : BitVec 32 := 7#32
  let v74 : BitVec 32 := Scalar.addi v31 c7_i32
  let c1024_i32 : BitVec 32 := 1024#32
  let v5 : BitVec 32 := Scalar.minsi v4 c1024_i32
  let v75 : BitVec 1 := Scalar.cmpi .slt v74 v5
  let c0_i32_37 : BitVec 32 := 0#32
  let v79 : BitVec 32 := Scalar.select v75 v78 c0_i32_37
  let v101 : Index := Scalar.indexCast v79
  let c0_45 : Index := 0#32
  ![v101.toNat, 0]

def k1_off15 (v4 : BitVec 32) (k1_t4 : Fin (k1_t4_loop v4).trips) (v36 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c0_i32_20 : BitVec 32 := 0#32
  let v32 : BitVec 32 := Scalar.addi v31 c0_i32_20
  let c1024_i32 : BitVec 32 := 1024#32
  let v5 : BitVec 32 := Scalar.minsi v4 c1024_i32
  let v33 : BitVec 1 := Scalar.cmpi .slt v32 v5
  let c0_i32_22 : BitVec 32 := 0#32
  let v37 : BitVec 32 := Scalar.select v33 v36 c0_i32_22
  let v175 : Index := Scalar.indexCast v37
  let c0_50 : Index := 0#32
  ![v175.toNat, 0]

def k1_chk5 (v4 : BitVec 32) (k1_t4 : Fin (k1_t4_loop v4).trips) (v36 : BitVec 32) : Prop :=
  (∀ a, (k1_off7 v4 k1_t4 v36) a + S1x32.size a ≤ S2048x32.size a) ∧
  (∀ a, (k1_off15 v4 k1_t4 v36) a + S1x1.size a ≤ S2048x1.size a)
theorem k1_off7_inb : ∀ (v4 : BitVec 32) (k1_t4 : Fin (k1_t4_loop v4).trips) (v36 : BitVec 32) (k1_hw5 : k1_chk5 v4 k1_t4 v36), ∀ a, (k1_off7 v4 k1_t4 v36) a + S1x32.size a ≤ S2048x32.size a := fun v4 k1_t4 v36 k1_hw5 => k1_hw5.1
theorem k1_off15_inb : ∀ (v4 : BitVec 32) (k1_t4 : Fin (k1_t4_loop v4).trips) (v36 : BitVec 32) (k1_hw5 : k1_chk5 v4 k1_t4 v36), ∀ a, (k1_off15 v4 k1_t4 v36) a + S1x1.size a ≤ S2048x1.size a := fun v4 k1_t4 v36 k1_hw5 => k1_hw5.2

def k1_off16 (v4 : BitVec 32) (k1_t4 : Fin (k1_t4_loop v4).trips) (v42 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c1_i32_23 : BitVec 32 := 1#32
  let v38 : BitVec 32 := Scalar.addi v31 c1_i32_23
  let c1024_i32 : BitVec 32 := 1024#32
  let v5 : BitVec 32 := Scalar.minsi v4 c1024_i32
  let v39 : BitVec 1 := Scalar.cmpi .slt v38 v5
  let c0_i32_25 : BitVec 32 := 0#32
  let v43 : BitVec 32 := Scalar.select v39 v42 c0_i32_25
  let v178 : Index := Scalar.indexCast v43
  let c0_51 : Index := 0#32
  ![v178.toNat, 0]

def k1_chk6 (v4 : BitVec 32) (k1_t4 : Fin (k1_t4_loop v4).trips) (v42 : BitVec 32) : Prop :=
  (∀ a, (k1_off8 v4 k1_t4 v42) a + S1x32.size a ≤ S2048x32.size a) ∧
  (∀ a, (k1_off16 v4 k1_t4 v42) a + S1x1.size a ≤ S2048x1.size a)
theorem k1_off8_inb : ∀ (v4 : BitVec 32) (k1_t4 : Fin (k1_t4_loop v4).trips) (v42 : BitVec 32) (k1_hw6 : k1_chk6 v4 k1_t4 v42), ∀ a, (k1_off8 v4 k1_t4 v42) a + S1x32.size a ≤ S2048x32.size a := fun v4 k1_t4 v42 k1_hw6 => k1_hw6.1
theorem k1_off16_inb : ∀ (v4 : BitVec 32) (k1_t4 : Fin (k1_t4_loop v4).trips) (v42 : BitVec 32) (k1_hw6 : k1_chk6 v4 k1_t4 v42), ∀ a, (k1_off16 v4 k1_t4 v42) a + S1x1.size a ≤ S2048x1.size a := fun v4 k1_t4 v42 k1_hw6 => k1_hw6.2

def k1_off17 (v4 : BitVec 32) (k1_t4 : Fin (k1_t4_loop v4).trips) (v48 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c2_i32 : BitVec 32 := 2#32
  let v44 : BitVec 32 := Scalar.addi v31 c2_i32
  let c1024_i32 : BitVec 32 := 1024#32
  let v5 : BitVec 32 := Scalar.minsi v4 c1024_i32
  let v45 : BitVec 1 := Scalar.cmpi .slt v44 v5
  let c0_i32_27 : BitVec 32 := 0#32
  let v49 : BitVec 32 := Scalar.select v45 v48 c0_i32_27
  let v181 : Index := Scalar.indexCast v49
  let c0_52 : Index := 0#32
  ![v181.toNat, 0]

def k1_chk7 (v4 : BitVec 32) (k1_t4 : Fin (k1_t4_loop v4).trips) (v48 : BitVec 32) : Prop :=
  (∀ a, (k1_off9 v4 k1_t4 v48) a + S1x32.size a ≤ S2048x32.size a) ∧
  (∀ a, (k1_off17 v4 k1_t4 v48) a + S1x1.size a ≤ S2048x1.size a)
theorem k1_off9_inb : ∀ (v4 : BitVec 32) (k1_t4 : Fin (k1_t4_loop v4).trips) (v48 : BitVec 32) (k1_hw7 : k1_chk7 v4 k1_t4 v48), ∀ a, (k1_off9 v4 k1_t4 v48) a + S1x32.size a ≤ S2048x32.size a := fun v4 k1_t4 v48 k1_hw7 => k1_hw7.1
theorem k1_off17_inb : ∀ (v4 : BitVec 32) (k1_t4 : Fin (k1_t4_loop v4).trips) (v48 : BitVec 32) (k1_hw7 : k1_chk7 v4 k1_t4 v48), ∀ a, (k1_off17 v4 k1_t4 v48) a + S1x1.size a ≤ S2048x1.size a := fun v4 k1_t4 v48 k1_hw7 => k1_hw7.2

def k1_off18 (v4 : BitVec 32) (k1_t4 : Fin (k1_t4_loop v4).trips) (v54 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c3_i32 : BitVec 32 := 3#32
  let v50 : BitVec 32 := Scalar.addi v31 c3_i32
  let c1024_i32 : BitVec 32 := 1024#32
  let v5 : BitVec 32 := Scalar.minsi v4 c1024_i32
  let v51 : BitVec 1 := Scalar.cmpi .slt v50 v5
  let c0_i32_29 : BitVec 32 := 0#32
  let v55 : BitVec 32 := Scalar.select v51 v54 c0_i32_29
  let v184 : Index := Scalar.indexCast v55
  let c0_53 : Index := 0#32
  ![v184.toNat, 0]

def k1_chk8 (v4 : BitVec 32) (k1_t4 : Fin (k1_t4_loop v4).trips) (v54 : BitVec 32) : Prop :=
  (∀ a, (k1_off10 v4 k1_t4 v54) a + S1x32.size a ≤ S2048x32.size a) ∧
  (∀ a, (k1_off18 v4 k1_t4 v54) a + S1x1.size a ≤ S2048x1.size a)
theorem k1_off10_inb : ∀ (v4 : BitVec 32) (k1_t4 : Fin (k1_t4_loop v4).trips) (v54 : BitVec 32) (k1_hw8 : k1_chk8 v4 k1_t4 v54), ∀ a, (k1_off10 v4 k1_t4 v54) a + S1x32.size a ≤ S2048x32.size a := fun v4 k1_t4 v54 k1_hw8 => k1_hw8.1
theorem k1_off18_inb : ∀ (v4 : BitVec 32) (k1_t4 : Fin (k1_t4_loop v4).trips) (v54 : BitVec 32) (k1_hw8 : k1_chk8 v4 k1_t4 v54), ∀ a, (k1_off18 v4 k1_t4 v54) a + S1x1.size a ≤ S2048x1.size a := fun v4 k1_t4 v54 k1_hw8 => k1_hw8.2

def k1_off19 (v4 : BitVec 32) (k1_t4 : Fin (k1_t4_loop v4).trips) (v60 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c4_i32 : BitVec 32 := 4#32
  let v56 : BitVec 32 := Scalar.addi v31 c4_i32
  let c1024_i32 : BitVec 32 := 1024#32
  let v5 : BitVec 32 := Scalar.minsi v4 c1024_i32
  let v57 : BitVec 1 := Scalar.cmpi .slt v56 v5
  let c0_i32_31 : BitVec 32 := 0#32
  let v61 : BitVec 32 := Scalar.select v57 v60 c0_i32_31
  let v187 : Index := Scalar.indexCast v61
  let c0_54 : Index := 0#32
  ![v187.toNat, 0]

def k1_chk9 (v4 : BitVec 32) (k1_t4 : Fin (k1_t4_loop v4).trips) (v60 : BitVec 32) : Prop :=
  (∀ a, (k1_off11 v4 k1_t4 v60) a + S1x32.size a ≤ S2048x32.size a) ∧
  (∀ a, (k1_off19 v4 k1_t4 v60) a + S1x1.size a ≤ S2048x1.size a)
theorem k1_off11_inb : ∀ (v4 : BitVec 32) (k1_t4 : Fin (k1_t4_loop v4).trips) (v60 : BitVec 32) (k1_hw9 : k1_chk9 v4 k1_t4 v60), ∀ a, (k1_off11 v4 k1_t4 v60) a + S1x32.size a ≤ S2048x32.size a := fun v4 k1_t4 v60 k1_hw9 => k1_hw9.1
theorem k1_off19_inb : ∀ (v4 : BitVec 32) (k1_t4 : Fin (k1_t4_loop v4).trips) (v60 : BitVec 32) (k1_hw9 : k1_chk9 v4 k1_t4 v60), ∀ a, (k1_off19 v4 k1_t4 v60) a + S1x1.size a ≤ S2048x1.size a := fun v4 k1_t4 v60 k1_hw9 => k1_hw9.2

def k1_off20 (v4 : BitVec 32) (k1_t4 : Fin (k1_t4_loop v4).trips) (v66 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c5_i32 : BitVec 32 := 5#32
  let v62 : BitVec 32 := Scalar.addi v31 c5_i32
  let c1024_i32 : BitVec 32 := 1024#32
  let v5 : BitVec 32 := Scalar.minsi v4 c1024_i32
  let v63 : BitVec 1 := Scalar.cmpi .slt v62 v5
  let c0_i32_33 : BitVec 32 := 0#32
  let v67 : BitVec 32 := Scalar.select v63 v66 c0_i32_33
  let v190 : Index := Scalar.indexCast v67
  let c0_55 : Index := 0#32
  ![v190.toNat, 0]

def k1_chk10 (v4 : BitVec 32) (k1_t4 : Fin (k1_t4_loop v4).trips) (v66 : BitVec 32) : Prop :=
  (∀ a, (k1_off12 v4 k1_t4 v66) a + S1x32.size a ≤ S2048x32.size a) ∧
  (∀ a, (k1_off20 v4 k1_t4 v66) a + S1x1.size a ≤ S2048x1.size a)
theorem k1_off12_inb : ∀ (v4 : BitVec 32) (k1_t4 : Fin (k1_t4_loop v4).trips) (v66 : BitVec 32) (k1_hw10 : k1_chk10 v4 k1_t4 v66), ∀ a, (k1_off12 v4 k1_t4 v66) a + S1x32.size a ≤ S2048x32.size a := fun v4 k1_t4 v66 k1_hw10 => k1_hw10.1
theorem k1_off20_inb : ∀ (v4 : BitVec 32) (k1_t4 : Fin (k1_t4_loop v4).trips) (v66 : BitVec 32) (k1_hw10 : k1_chk10 v4 k1_t4 v66), ∀ a, (k1_off20 v4 k1_t4 v66) a + S1x1.size a ≤ S2048x1.size a := fun v4 k1_t4 v66 k1_hw10 => k1_hw10.2

def k1_off21 (v4 : BitVec 32) (k1_t4 : Fin (k1_t4_loop v4).trips) (v72 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c6_i32 : BitVec 32 := 6#32
  let v68 : BitVec 32 := Scalar.addi v31 c6_i32
  let c1024_i32 : BitVec 32 := 1024#32
  let v5 : BitVec 32 := Scalar.minsi v4 c1024_i32
  let v69 : BitVec 1 := Scalar.cmpi .slt v68 v5
  let c0_i32_35 : BitVec 32 := 0#32
  let v73 : BitVec 32 := Scalar.select v69 v72 c0_i32_35
  let v193 : Index := Scalar.indexCast v73
  let c0_56 : Index := 0#32
  ![v193.toNat, 0]

def k1_chk11 (v4 : BitVec 32) (k1_t4 : Fin (k1_t4_loop v4).trips) (v72 : BitVec 32) : Prop :=
  (∀ a, (k1_off13 v4 k1_t4 v72) a + S1x32.size a ≤ S2048x32.size a) ∧
  (∀ a, (k1_off21 v4 k1_t4 v72) a + S1x1.size a ≤ S2048x1.size a)
theorem k1_off13_inb : ∀ (v4 : BitVec 32) (k1_t4 : Fin (k1_t4_loop v4).trips) (v72 : BitVec 32) (k1_hw11 : k1_chk11 v4 k1_t4 v72), ∀ a, (k1_off13 v4 k1_t4 v72) a + S1x32.size a ≤ S2048x32.size a := fun v4 k1_t4 v72 k1_hw11 => k1_hw11.1
theorem k1_off21_inb : ∀ (v4 : BitVec 32) (k1_t4 : Fin (k1_t4_loop v4).trips) (v72 : BitVec 32) (k1_hw11 : k1_chk11 v4 k1_t4 v72), ∀ a, (k1_off21 v4 k1_t4 v72) a + S1x1.size a ≤ S2048x1.size a := fun v4 k1_t4 v72 k1_hw11 => k1_hw11.2

def k1_off22 (v4 : BitVec 32) (k1_t4 : Fin (k1_t4_loop v4).trips) (v78 : BitVec 32) : Fin 2 → Nat :=
  let c0_i32_15 : BitVec 32 := 0#32
  let c1_i32_17 : BitVec 32 := 1#32
  let arg9 : BitVec 32 := Scf.iv c0_i32_15 c1_i32_17 k1_t4
  let c8_i32_19 : BitVec 32 := 8#32
  let v31 : BitVec 32 := Scalar.muli arg9 c8_i32_19
  let c7_i32 : BitVec 32 := 7#32
  let v74 : BitVec 32 := Scalar.addi v31 c7_i32
  let c1024_i32 : BitVec 32 := 1024#32
  let v5 : BitVec 32 := Scalar.minsi v4 c1024_i32
  let v75 : BitVec 1 := Scalar.cmpi .slt v74 v5
  let c0_i32_37 : BitVec 32 := 0#32
  let v79 : BitVec 32 := Scalar.select v75 v78 c0_i32_37
  let v196 : Index := Scalar.indexCast v79
  let c0_57 : Index := 0#32
  ![v196.toNat, 0]

def k1_chk12 (v4 : BitVec 32) (k1_t4 : Fin (k1_t4_loop v4).trips) (v78 : BitVec 32) : Prop :=
  (∀ a, (k1_off14 v4 k1_t4 v78) a + S1x32.size a ≤ S2048x32.size a) ∧
  (∀ a, (k1_off22 v4 k1_t4 v78) a + S1x1.size a ≤ S2048x1.size a)
theorem k1_off14_inb : ∀ (v4 : BitVec 32) (k1_t4 : Fin (k1_t4_loop v4).trips) (v78 : BitVec 32) (k1_hw12 : k1_chk12 v4 k1_t4 v78), ∀ a, (k1_off14 v4 k1_t4 v78) a + S1x32.size a ≤ S2048x32.size a := fun v4 k1_t4 v78 k1_hw12 => k1_hw12.1
theorem k1_off22_inb : ∀ (v4 : BitVec 32) (k1_t4 : Fin (k1_t4_loop v4).trips) (v78 : BitVec 32) (k1_hw12 : k1_chk12 v4 k1_t4 v78), ∀ a, (k1_off22 v4 k1_t4 v78) a + S1x1.size a ≤ S2048x1.size a := fun v4 k1_t4 v78 k1_hw12 => k1_hw12.2

@[reducible] def k1_t5_loop (v4 : BitVec 32) : Scf.Loop 32 :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let v27 : BitVec 32 := Scalar.addi c0_i32_15 v26
  let c1_i32_18 : BitVec 32 := 1#32
  ⟨v30, v27, c1_i32_18⟩
def k1_off23 (v4 : BitVec 32) (k1_t5 : Fin (k1_t5_loop v4).trips) (c0_i32_21 : BitVec 32) : Fin 1 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let v34 : BitVec 32 := Scalar.addi v31 c0_i32_21
  let v35 : Index := Scalar.indexCast v34
  ![v35.toNat]

def k1_chk4 (v4 : BitVec 32) : Prop :=
  ((k1_t4_loop v4).OK) ∧
  (∀ k1_t4 : Fin (k1_t4_loop v4).trips, ∀ (r : Fin 8), ∀ a, (k1_off6 v4 k1_t4 (BitVec.ofNat 32 r.val)) a + S1.size a ≤ S1024.size a) ∧
  ((k1_t5_loop v4).OK) ∧
  (∀ k1_t5 : Fin (k1_t5_loop v4).trips, ∀ (r : Fin 8), ∀ a, (k1_off23 v4 k1_t5 (BitVec.ofNat 32 r.val)) a + S1.size a ≤ S1024.size a)
theorem k1_t4_ok : ∀ (v4 : BitVec 32) (k1_hw4 : k1_chk4 v4), (k1_t4_loop v4).OK := fun v4 k1_hw4 => k1_hw4.1
theorem k1_off6_inb : ∀ (v4 : BitVec 32) (k1_hw4 : k1_chk4 v4) (k1_t4 : Fin (k1_t4_loop v4).trips), ∀ (r : Fin 8), ∀ a, (k1_off6 v4 k1_t4 (BitVec.ofNat 32 r.val)) a + S1.size a ≤ S1024.size a := fun v4 k1_hw4 k1_t4 r => k1_hw4.2.1 k1_t4 r
theorem k1_t5_ok : ∀ (v4 : BitVec 32) (k1_hw4 : k1_chk4 v4), (k1_t5_loop v4).OK := fun v4 k1_hw4 => k1_hw4.2.2.1
theorem k1_off23_inb : ∀ (v4 : BitVec 32) (k1_hw4 : k1_chk4 v4) (k1_t5 : Fin (k1_t5_loop v4).trips), ∀ (r : Fin 8), ∀ a, (k1_off23 v4 k1_t5 (BitVec.ofNat 32 r.val)) a + S1.size a ≤ S1024.size a := fun v4 k1_hw4 k1_t5 r => k1_hw4.2.2.2 k1_t5 r

def k1_off24 (v4 : BitVec 32) (k1_t5 : Fin (k1_t5_loop v4).trips) (v36 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c0_i32_20 : BitVec 32 := 0#32
  let v32 : BitVec 32 := Scalar.addi v31 c0_i32_20
  let v33 : BitVec 1 := Scalar.cmpi .slt v32 v5
  let c0_i32_22 : BitVec 32 := 0#32
  let v37 : BitVec 32 := Scalar.select v33 v36 c0_i32_22
  let v80 : Index := Scalar.indexCast v37
  let c0_38 : Index := 0#32
  ![v80.toNat, 0]

def k1_off25 (v4 : BitVec 32) (k1_t5 : Fin (k1_t5_loop v4).trips) (v42 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c1_i32_23 : BitVec 32 := 1#32
  let v38 : BitVec 32 := Scalar.addi v31 c1_i32_23
  let v39 : BitVec 1 := Scalar.cmpi .slt v38 v5
  let c0_i32_25 : BitVec 32 := 0#32
  let v43 : BitVec 32 := Scalar.select v39 v42 c0_i32_25
  let v83 : Index := Scalar.indexCast v43
  let c0_39 : Index := 0#32
  ![v83.toNat, 0]

def k1_off26 (v4 : BitVec 32) (k1_t5 : Fin (k1_t5_loop v4).trips) (v48 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c2_i32 : BitVec 32 := 2#32
  let v44 : BitVec 32 := Scalar.addi v31 c2_i32
  let v45 : BitVec 1 := Scalar.cmpi .slt v44 v5
  let c0_i32_27 : BitVec 32 := 0#32
  let v49 : BitVec 32 := Scalar.select v45 v48 c0_i32_27
  let v86 : Index := Scalar.indexCast v49
  let c0_40 : Index := 0#32
  ![v86.toNat, 0]

def k1_off27 (v4 : BitVec 32) (k1_t5 : Fin (k1_t5_loop v4).trips) (v54 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c3_i32 : BitVec 32 := 3#32
  let v50 : BitVec 32 := Scalar.addi v31 c3_i32
  let v51 : BitVec 1 := Scalar.cmpi .slt v50 v5
  let c0_i32_29 : BitVec 32 := 0#32
  let v55 : BitVec 32 := Scalar.select v51 v54 c0_i32_29
  let v89 : Index := Scalar.indexCast v55
  let c0_41 : Index := 0#32
  ![v89.toNat, 0]

def k1_off28 (v4 : BitVec 32) (k1_t5 : Fin (k1_t5_loop v4).trips) (v60 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c4_i32 : BitVec 32 := 4#32
  let v56 : BitVec 32 := Scalar.addi v31 c4_i32
  let v57 : BitVec 1 := Scalar.cmpi .slt v56 v5
  let c0_i32_31 : BitVec 32 := 0#32
  let v61 : BitVec 32 := Scalar.select v57 v60 c0_i32_31
  let v92 : Index := Scalar.indexCast v61
  let c0_42 : Index := 0#32
  ![v92.toNat, 0]

def k1_off29 (v4 : BitVec 32) (k1_t5 : Fin (k1_t5_loop v4).trips) (v66 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c5_i32 : BitVec 32 := 5#32
  let v62 : BitVec 32 := Scalar.addi v31 c5_i32
  let v63 : BitVec 1 := Scalar.cmpi .slt v62 v5
  let c0_i32_33 : BitVec 32 := 0#32
  let v67 : BitVec 32 := Scalar.select v63 v66 c0_i32_33
  let v95 : Index := Scalar.indexCast v67
  let c0_43 : Index := 0#32
  ![v95.toNat, 0]

def k1_off30 (v4 : BitVec 32) (k1_t5 : Fin (k1_t5_loop v4).trips) (v72 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c6_i32 : BitVec 32 := 6#32
  let v68 : BitVec 32 := Scalar.addi v31 c6_i32
  let v69 : BitVec 1 := Scalar.cmpi .slt v68 v5
  let c0_i32_35 : BitVec 32 := 0#32
  let v73 : BitVec 32 := Scalar.select v69 v72 c0_i32_35
  let v98 : Index := Scalar.indexCast v73
  let c0_44 : Index := 0#32
  ![v98.toNat, 0]

def k1_off31 (v4 : BitVec 32) (k1_t5 : Fin (k1_t5_loop v4).trips) (v78 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c7_i32 : BitVec 32 := 7#32
  let v74 : BitVec 32 := Scalar.addi v31 c7_i32
  let v75 : BitVec 1 := Scalar.cmpi .slt v74 v5
  let c0_i32_37 : BitVec 32 := 0#32
  let v79 : BitVec 32 := Scalar.select v75 v78 c0_i32_37
  let v101 : Index := Scalar.indexCast v79
  let c0_45 : Index := 0#32
  ![v101.toNat, 0]

def k1_off32 (v4 : BitVec 32) (k1_t5 : Fin (k1_t5_loop v4).trips) (v36 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c0_i32_20 : BitVec 32 := 0#32
  let v32 : BitVec 32 := Scalar.addi v31 c0_i32_20
  let v33 : BitVec 1 := Scalar.cmpi .slt v32 v5
  let c0_i32_22 : BitVec 32 := 0#32
  let v37 : BitVec 32 := Scalar.select v33 v36 c0_i32_22
  let v175 : Index := Scalar.indexCast v37
  let c0_50 : Index := 0#32
  ![v175.toNat, 0]

def k1_chk13 (v4 : BitVec 32) (k1_t5 : Fin (k1_t5_loop v4).trips) (v36 : BitVec 32) : Prop :=
  (∀ a, (k1_off24 v4 k1_t5 v36) a + S1x32.size a ≤ S2048x32.size a) ∧
  (∀ a, (k1_off32 v4 k1_t5 v36) a + S1x1.size a ≤ S2048x1.size a)
theorem k1_off24_inb : ∀ (v4 : BitVec 32) (k1_t5 : Fin (k1_t5_loop v4).trips) (v36 : BitVec 32) (k1_hw13 : k1_chk13 v4 k1_t5 v36), ∀ a, (k1_off24 v4 k1_t5 v36) a + S1x32.size a ≤ S2048x32.size a := fun v4 k1_t5 v36 k1_hw13 => k1_hw13.1
theorem k1_off32_inb : ∀ (v4 : BitVec 32) (k1_t5 : Fin (k1_t5_loop v4).trips) (v36 : BitVec 32) (k1_hw13 : k1_chk13 v4 k1_t5 v36), ∀ a, (k1_off32 v4 k1_t5 v36) a + S1x1.size a ≤ S2048x1.size a := fun v4 k1_t5 v36 k1_hw13 => k1_hw13.2

def k1_off33 (v4 : BitVec 32) (k1_t5 : Fin (k1_t5_loop v4).trips) (v42 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c1_i32_23 : BitVec 32 := 1#32
  let v38 : BitVec 32 := Scalar.addi v31 c1_i32_23
  let v39 : BitVec 1 := Scalar.cmpi .slt v38 v5
  let c0_i32_25 : BitVec 32 := 0#32
  let v43 : BitVec 32 := Scalar.select v39 v42 c0_i32_25
  let v178 : Index := Scalar.indexCast v43
  let c0_51 : Index := 0#32
  ![v178.toNat, 0]

def k1_chk14 (v4 : BitVec 32) (k1_t5 : Fin (k1_t5_loop v4).trips) (v42 : BitVec 32) : Prop :=
  (∀ a, (k1_off25 v4 k1_t5 v42) a + S1x32.size a ≤ S2048x32.size a) ∧
  (∀ a, (k1_off33 v4 k1_t5 v42) a + S1x1.size a ≤ S2048x1.size a)
theorem k1_off25_inb : ∀ (v4 : BitVec 32) (k1_t5 : Fin (k1_t5_loop v4).trips) (v42 : BitVec 32) (k1_hw14 : k1_chk14 v4 k1_t5 v42), ∀ a, (k1_off25 v4 k1_t5 v42) a + S1x32.size a ≤ S2048x32.size a := fun v4 k1_t5 v42 k1_hw14 => k1_hw14.1
theorem k1_off33_inb : ∀ (v4 : BitVec 32) (k1_t5 : Fin (k1_t5_loop v4).trips) (v42 : BitVec 32) (k1_hw14 : k1_chk14 v4 k1_t5 v42), ∀ a, (k1_off33 v4 k1_t5 v42) a + S1x1.size a ≤ S2048x1.size a := fun v4 k1_t5 v42 k1_hw14 => k1_hw14.2

def k1_off34 (v4 : BitVec 32) (k1_t5 : Fin (k1_t5_loop v4).trips) (v48 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c2_i32 : BitVec 32 := 2#32
  let v44 : BitVec 32 := Scalar.addi v31 c2_i32
  let v45 : BitVec 1 := Scalar.cmpi .slt v44 v5
  let c0_i32_27 : BitVec 32 := 0#32
  let v49 : BitVec 32 := Scalar.select v45 v48 c0_i32_27
  let v181 : Index := Scalar.indexCast v49
  let c0_52 : Index := 0#32
  ![v181.toNat, 0]

def k1_chk15 (v4 : BitVec 32) (k1_t5 : Fin (k1_t5_loop v4).trips) (v48 : BitVec 32) : Prop :=
  (∀ a, (k1_off26 v4 k1_t5 v48) a + S1x32.size a ≤ S2048x32.size a) ∧
  (∀ a, (k1_off34 v4 k1_t5 v48) a + S1x1.size a ≤ S2048x1.size a)
theorem k1_off26_inb : ∀ (v4 : BitVec 32) (k1_t5 : Fin (k1_t5_loop v4).trips) (v48 : BitVec 32) (k1_hw15 : k1_chk15 v4 k1_t5 v48), ∀ a, (k1_off26 v4 k1_t5 v48) a + S1x32.size a ≤ S2048x32.size a := fun v4 k1_t5 v48 k1_hw15 => k1_hw15.1
theorem k1_off34_inb : ∀ (v4 : BitVec 32) (k1_t5 : Fin (k1_t5_loop v4).trips) (v48 : BitVec 32) (k1_hw15 : k1_chk15 v4 k1_t5 v48), ∀ a, (k1_off34 v4 k1_t5 v48) a + S1x1.size a ≤ S2048x1.size a := fun v4 k1_t5 v48 k1_hw15 => k1_hw15.2

def k1_off35 (v4 : BitVec 32) (k1_t5 : Fin (k1_t5_loop v4).trips) (v54 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c3_i32 : BitVec 32 := 3#32
  let v50 : BitVec 32 := Scalar.addi v31 c3_i32
  let v51 : BitVec 1 := Scalar.cmpi .slt v50 v5
  let c0_i32_29 : BitVec 32 := 0#32
  let v55 : BitVec 32 := Scalar.select v51 v54 c0_i32_29
  let v184 : Index := Scalar.indexCast v55
  let c0_53 : Index := 0#32
  ![v184.toNat, 0]

def k1_chk16 (v4 : BitVec 32) (k1_t5 : Fin (k1_t5_loop v4).trips) (v54 : BitVec 32) : Prop :=
  (∀ a, (k1_off27 v4 k1_t5 v54) a + S1x32.size a ≤ S2048x32.size a) ∧
  (∀ a, (k1_off35 v4 k1_t5 v54) a + S1x1.size a ≤ S2048x1.size a)
theorem k1_off27_inb : ∀ (v4 : BitVec 32) (k1_t5 : Fin (k1_t5_loop v4).trips) (v54 : BitVec 32) (k1_hw16 : k1_chk16 v4 k1_t5 v54), ∀ a, (k1_off27 v4 k1_t5 v54) a + S1x32.size a ≤ S2048x32.size a := fun v4 k1_t5 v54 k1_hw16 => k1_hw16.1
theorem k1_off35_inb : ∀ (v4 : BitVec 32) (k1_t5 : Fin (k1_t5_loop v4).trips) (v54 : BitVec 32) (k1_hw16 : k1_chk16 v4 k1_t5 v54), ∀ a, (k1_off35 v4 k1_t5 v54) a + S1x1.size a ≤ S2048x1.size a := fun v4 k1_t5 v54 k1_hw16 => k1_hw16.2

def k1_off36 (v4 : BitVec 32) (k1_t5 : Fin (k1_t5_loop v4).trips) (v60 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c4_i32 : BitVec 32 := 4#32
  let v56 : BitVec 32 := Scalar.addi v31 c4_i32
  let v57 : BitVec 1 := Scalar.cmpi .slt v56 v5
  let c0_i32_31 : BitVec 32 := 0#32
  let v61 : BitVec 32 := Scalar.select v57 v60 c0_i32_31
  let v187 : Index := Scalar.indexCast v61
  let c0_54 : Index := 0#32
  ![v187.toNat, 0]

def k1_chk17 (v4 : BitVec 32) (k1_t5 : Fin (k1_t5_loop v4).trips) (v60 : BitVec 32) : Prop :=
  (∀ a, (k1_off28 v4 k1_t5 v60) a + S1x32.size a ≤ S2048x32.size a) ∧
  (∀ a, (k1_off36 v4 k1_t5 v60) a + S1x1.size a ≤ S2048x1.size a)
theorem k1_off28_inb : ∀ (v4 : BitVec 32) (k1_t5 : Fin (k1_t5_loop v4).trips) (v60 : BitVec 32) (k1_hw17 : k1_chk17 v4 k1_t5 v60), ∀ a, (k1_off28 v4 k1_t5 v60) a + S1x32.size a ≤ S2048x32.size a := fun v4 k1_t5 v60 k1_hw17 => k1_hw17.1
theorem k1_off36_inb : ∀ (v4 : BitVec 32) (k1_t5 : Fin (k1_t5_loop v4).trips) (v60 : BitVec 32) (k1_hw17 : k1_chk17 v4 k1_t5 v60), ∀ a, (k1_off36 v4 k1_t5 v60) a + S1x1.size a ≤ S2048x1.size a := fun v4 k1_t5 v60 k1_hw17 => k1_hw17.2

def k1_off37 (v4 : BitVec 32) (k1_t5 : Fin (k1_t5_loop v4).trips) (v66 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c5_i32 : BitVec 32 := 5#32
  let v62 : BitVec 32 := Scalar.addi v31 c5_i32
  let v63 : BitVec 1 := Scalar.cmpi .slt v62 v5
  let c0_i32_33 : BitVec 32 := 0#32
  let v67 : BitVec 32 := Scalar.select v63 v66 c0_i32_33
  let v190 : Index := Scalar.indexCast v67
  let c0_55 : Index := 0#32
  ![v190.toNat, 0]

def k1_chk18 (v4 : BitVec 32) (k1_t5 : Fin (k1_t5_loop v4).trips) (v66 : BitVec 32) : Prop :=
  (∀ a, (k1_off29 v4 k1_t5 v66) a + S1x32.size a ≤ S2048x32.size a) ∧
  (∀ a, (k1_off37 v4 k1_t5 v66) a + S1x1.size a ≤ S2048x1.size a)
theorem k1_off29_inb : ∀ (v4 : BitVec 32) (k1_t5 : Fin (k1_t5_loop v4).trips) (v66 : BitVec 32) (k1_hw18 : k1_chk18 v4 k1_t5 v66), ∀ a, (k1_off29 v4 k1_t5 v66) a + S1x32.size a ≤ S2048x32.size a := fun v4 k1_t5 v66 k1_hw18 => k1_hw18.1
theorem k1_off37_inb : ∀ (v4 : BitVec 32) (k1_t5 : Fin (k1_t5_loop v4).trips) (v66 : BitVec 32) (k1_hw18 : k1_chk18 v4 k1_t5 v66), ∀ a, (k1_off37 v4 k1_t5 v66) a + S1x1.size a ≤ S2048x1.size a := fun v4 k1_t5 v66 k1_hw18 => k1_hw18.2

def k1_off38 (v4 : BitVec 32) (k1_t5 : Fin (k1_t5_loop v4).trips) (v72 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c6_i32 : BitVec 32 := 6#32
  let v68 : BitVec 32 := Scalar.addi v31 c6_i32
  let v69 : BitVec 1 := Scalar.cmpi .slt v68 v5
  let c0_i32_35 : BitVec 32 := 0#32
  let v73 : BitVec 32 := Scalar.select v69 v72 c0_i32_35
  let v193 : Index := Scalar.indexCast v73
  let c0_56 : Index := 0#32
  ![v193.toNat, 0]

def k1_chk19 (v4 : BitVec 32) (k1_t5 : Fin (k1_t5_loop v4).trips) (v72 : BitVec 32) : Prop :=
  (∀ a, (k1_off30 v4 k1_t5 v72) a + S1x32.size a ≤ S2048x32.size a) ∧
  (∀ a, (k1_off38 v4 k1_t5 v72) a + S1x1.size a ≤ S2048x1.size a)
theorem k1_off30_inb : ∀ (v4 : BitVec 32) (k1_t5 : Fin (k1_t5_loop v4).trips) (v72 : BitVec 32) (k1_hw19 : k1_chk19 v4 k1_t5 v72), ∀ a, (k1_off30 v4 k1_t5 v72) a + S1x32.size a ≤ S2048x32.size a := fun v4 k1_t5 v72 k1_hw19 => k1_hw19.1
theorem k1_off38_inb : ∀ (v4 : BitVec 32) (k1_t5 : Fin (k1_t5_loop v4).trips) (v72 : BitVec 32) (k1_hw19 : k1_chk19 v4 k1_t5 v72), ∀ a, (k1_off38 v4 k1_t5 v72) a + S1x1.size a ≤ S2048x1.size a := fun v4 k1_t5 v72 k1_hw19 => k1_hw19.2

def k1_off39 (v4 : BitVec 32) (k1_t5 : Fin (k1_t5_loop v4).trips) (v78 : BitVec 32) : Fin 2 → Nat :=
  let c0_i32_15 : BitVec 32 := 0#32
  let c1024_i32 : BitVec 32 := 1024#32
  let v5 : BitVec 32 := Scalar.minsi v4 c1024_i32
  let c8_i32 : BitVec 32 := 8#32
  let v7 : BitVec 32 := Scalar.addi v5 c8_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c8_i32_7 : BitVec 32 := 8#32
  let c0_i32_10 : BitVec 32 := 0#32
  let v15 : BitVec 1 := Scalar.cmpi .sgt c8_i32_7 c0_i32_10
  let v16 : BitVec 32 := Scalar.extui v15
  let c0_i32_11 : BitVec 32 := 0#32
  let v17 : BitVec 1 := Scalar.cmpi .slt c8_i32_7 c0_i32_11
  let v18 : BitVec 32 := Scalar.extui v17
  let v19 : BitVec 32 := Scalar.subi v16 v18
  let v20 : BitVec 1 := Scalar.cmpi .ne v14 v19
  let v21 : BitVec 32 := Scalar.remsi v8 c8_i32_7
  let c0_i32_12 : BitVec 32 := 0#32
  let v22 : BitVec 1 := Scalar.cmpi .ne v21 c0_i32_12
  let v23 : BitVec 1 := Scalar.andi v20 v22
  let v9 : BitVec 32 := Scalar.divsi v8 c8_i32_7
  let c1_i32_13 : BitVec 32 := 1#32
  let v24 : BitVec 32 := Scalar.subi v9 c1_i32_13
  let v25 : BitVec 32 := Scalar.select v23 v24 v9
  let v26 : BitVec 32 := Scalar.subi v25 c0_i32_15
  let c1_i32_16 : BitVec 32 := 1#32
  let v28 : BitVec 32 := Scalar.divsi v26 c1_i32_16
  let v29 : BitVec 32 := Scalar.muli v28 c1_i32_16
  let v30 : BitVec 32 := Scalar.addi c0_i32_15 v29
  let c1_i32_18 : BitVec 32 := 1#32
  let arg9 : BitVec 32 := Scf.iv v30 c1_i32_18 k1_t5
  let c8_i32_19 : BitVec 32 := 8#32
  let v31 : BitVec 32 := Scalar.muli arg9 c8_i32_19
  let c7_i32 : BitVec 32 := 7#32
  let v74 : BitVec 32 := Scalar.addi v31 c7_i32
  let v75 : BitVec 1 := Scalar.cmpi .slt v74 v5
  let c0_i32_37 : BitVec 32 := 0#32
  let v79 : BitVec 32 := Scalar.select v75 v78 c0_i32_37
  let v196 : Index := Scalar.indexCast v79
  let c0_57 : Index := 0#32
  ![v196.toNat, 0]

def k1_chk20 (v4 : BitVec 32) (k1_t5 : Fin (k1_t5_loop v4).trips) (v78 : BitVec 32) : Prop :=
  (∀ a, (k1_off31 v4 k1_t5 v78) a + S1x32.size a ≤ S2048x32.size a) ∧
  (∀ a, (k1_off39 v4 k1_t5 v78) a + S1x1.size a ≤ S2048x1.size a)
theorem k1_off31_inb : ∀ (v4 : BitVec 32) (k1_t5 : Fin (k1_t5_loop v4).trips) (v78 : BitVec 32) (k1_hw20 : k1_chk20 v4 k1_t5 v78), ∀ a, (k1_off31 v4 k1_t5 v78) a + S1x32.size a ≤ S2048x32.size a := fun v4 k1_t5 v78 k1_hw20 => k1_hw20.1
theorem k1_off39_inb : ∀ (v4 : BitVec 32) (k1_t5 : Fin (k1_t5_loop v4).trips) (v78 : BitVec 32) (k1_hw20 : k1_chk20 v4 k1_t5 v78), ∀ a, (k1_off39 v4 k1_t5 v78) a + S1x1.size a ≤ S2048x1.size a := fun v4 k1_t5 v78 k1_hw20 => k1_hw20.2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S2x32x32x32 : Shape := ⟨4, ![2, 32, 32, 32]⟩
abbrev S1024x32 : Shape := ⟨2, ![1024, 32]⟩
abbrev S2048x32 : Shape := ⟨2, ![2048, 32]⟩
abbrev S2048x1x32 : Shape := ⟨3, ![2048, 1, 32]⟩
abbrev S1x1024x32 : Shape := ⟨3, ![1, 1024, 32]⟩
abbrev S2048x1024x32 : Shape := ⟨3, ![2048, 1024, 32]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1 : Shape := ⟨1, ![1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S2x32x32x32, .f32⟩
  | .hbm, ⟨1, _⟩ => ⟨S1024x32, .f32⟩
  | .hbm, ⟨2, _⟩ => ⟨S2x32x32x32, .f32⟩
  | .hbm, ⟨3, _⟩ => ⟨S2048x32, .f32⟩
  | .hbm, ⟨4, _⟩ => ⟨S2048x1x32, .f32⟩
  | .hbm, ⟨5, _⟩ => ⟨S1x1024x32, .f32⟩
  | .hbm, ⟨6, _⟩ => ⟨S2048x1024x32, .f32⟩
  | .hbm, ⟨7, _⟩ => ⟨S2048x1024x32, .f32⟩
  | .hbm, ⟨8, _⟩ => ⟨S2048x1024x32, .f32⟩
  | .hbm, ⟨9, _⟩ => ⟨S2048x1024x32, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .i32⟩
  | .hbm, ⟨14, _⟩ => ⟨S_, .f32⟩
  | .hbm, ⟨15, _⟩ => ⟨S_, .i32⟩
  | .hbm, ⟨16, _⟩ => ⟨S2048, .f32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S1, .i32⟩
  | .hbm, ⟨27, _⟩ => ⟨S_, .i32⟩
  | .hbm, ⟨28, _⟩ => ⟨S2048x1, .i32⟩
  | .hbm, ⟨29, _⟩ => ⟨S2048x1, .i1⟩
  | .hbm, ⟨30, _⟩ => ⟨S1x1, .i32⟩
  | .hbm, ⟨31, _⟩ => ⟨S2048x1, .i32⟩
  | .hbm, ⟨32, _⟩ => ⟨S2048x1, .i1⟩
  | .hbm, ⟨33, _⟩ => ⟨S2048x1, .i1⟩
  | .hbm, ⟨34, _⟩ => ⟨S_, .i1⟩
  | .hbm, ⟨35, _⟩ => ⟨S2048, .i1⟩
  | .hbm, ⟨36, _⟩ => ⟨S2048x32, .f32⟩
  | .hbm, ⟨37, _⟩ => ⟨S2048x32, .i1⟩
  | .hbm, ⟨38, _⟩ => ⟨S_, .f32⟩
  | .hbm, ⟨39, _⟩ => ⟨S2048x32, .f32⟩
  | .hbm, ⟨40, _⟩ => ⟨S2048x32, .f32⟩
  | .hbm, ⟨41, _⟩ => ⟨S2x32x32x32, .f32⟩
  | .hbm, ⟨42, _⟩ => ⟨S2x32x32x32, .f32⟩
  | .hbm, ⟨43, _⟩ => ⟨S2x32x32x32, .f32⟩
  | .hbm, ⟨44, _⟩ => ⟨S2x32x32x32, .f32⟩
  | .hbm, ⟨45, _⟩ => ⟨S2x32x32x32, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2x32x32x32, .f32⟩
  | .hbm, ⟨51, _⟩ => ⟨S2x32x32x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x32x32x32, .f32⟩
  | _, _ => ⟨S2x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v7 : Ref sig .tc := ⟨.hbm, 12, rfl⟩
abbrev main_call1_v0 : Ref sig .tc := ⟨.hbm, 13, rfl⟩
abbrev main_call1_cst : Ref sig .tc := ⟨.hbm, 14, rfl⟩
abbrev main_call1_c : Ref sig .tc := ⟨.hbm, 15, rfl⟩
abbrev main_call1_v1_0 : Ref sig .tc := ⟨.hbm, 16, rfl⟩
abbrev main_v8 : Ref sig .tc := ⟨.hbm, 17, rfl⟩
abbrev main_call2_c : Ref sig .tc := ⟨.hbm, 18, rfl⟩
abbrev main_call2_v0 : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_c_1 : Ref sig .tc := ⟨.hbm, 26, rfl⟩
abbrev main_call2_c_2 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_3 : Ref sig .tc := ⟨.hbm, 34, rfl⟩
abbrev main_call2_v12 : Ref sig .tc := ⟨.hbm, 35, rfl⟩
abbrev main_call2_v13 : Ref sig .tc := ⟨.hbm, 36, rfl⟩
abbrev main_call2_v14 : Ref sig .tc := ⟨.hbm, 37, rfl⟩
abbrev main_call2_cst : Ref sig .tc := ⟨.hbm, 38, rfl⟩
abbrev main_call2_v15 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst : Ref sig .tc := ⟨.hbm, 46, rfl⟩
abbrev main_v15 : Ref sig .tc := ⟨.hbm, 47, rfl⟩
abbrev main_cst_0 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_1 : Ref sig .tc := ⟨.hbm, 52, rfl⟩
abbrev main_v19 : Ref sig .tc := ⟨.hbm, 53, rfl⟩
abbrev main_cst_2 : Ref sig .tc := ⟨.hbm, 54, rfl⟩
abbrev main_v20 : Ref sig .tc := ⟨.hbm, 55, rfl⟩
abbrev main_cst_3 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩

abbrev nD : Nat := 1
abbrev τ : Topo := Topo.v7x

variable {F : FTy → Type} [FloatOps F]
-- ==== Proof.Ideal.ScoreBody.lean ====
/- The first kernel's body at one grid point: what it leaves in every buffer, as functions of what it reads. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole buffers -/

/-- Loading all of a whole buffer that holds `X` reads `X`. -/
theorem readAt_whole {sp : Space} {S : Shape} {e : EltTy} {m : Memref sig .tc sp S e} (h : m.IsWhole) (X : S.Idx → Elt F e)
    {off : Fin S.rank → Nat} (inb : ∀ a, off a + S.size a ≤ S.size a) (h0 : ∀ a, off a = 0) :
    View.readAt (Elt F) m.view (Rect.unit off (no_index S.size) inb).toLoadRect (h.unread X) = X :=
  (View.readAt_eq_ld _ _ _).trans ((congrArg (fun Y => View.ld Y _) (h.read_unread X)).trans (View.ld_unit_lit inb X h0))

/-- After a store over all of a buffer it reads as what was stored, whatever was there. -/
theorem read_stored {sp : Space} {S : Shape} {e : EltTy} (v : View sig .tc sp S e) (f : v.ty.Contents (Elt F))
    (L : List (View.Piece (Elt F) S e)) (w : S.Idx → Elt F e)
    {off : Fin S.rank → Nat} (inb : ∀ a, off a + S.size a ≤ S.size a) (h0 : ∀ a, off a = 0) :
    v.read (Elt F) (v.writes (Elt F) f ((⟨Rect.unit off (no_index S.size) inb, w⟩ : View.Piece (Elt F) S e) :: L)) = w :=
  (View.read_writes_eq_canon _ _ _ fun y => ⟨_, List.mem_cons_self, by
    rw [Rect.mem_set_unit]; exact fun a => ⟨(h0 a).symm ▸ Nat.zero_le _, (h0 a).symm ▸ (Nat.zero_add _).symm ▸ (y a).isLt⟩⟩).trans
    (View.canon_cons_unit_lit inb w L h0)

/-! ## What one point computes -/

/-- The squared norms of the code vectors, from the transposed code book. -/
def scE2 (et : Vec F S32x1024 .f32) : Vec F S1x1024 .f32 := k0_pay3 et

/-- The matrix that sums rows in groups of eight. -/
def scW8 : Vec F S1024x128 .f32 := k0_pay6 k0_pay5

/-- The index chosen for each row. -/
def scIdx (z : Vec F S1024x32 .f32) (zt et : Vec F S32x1024 .f32) (e2 : Vec F S1x1024 .f32) : Vec F S1x1x1024 .i32 :=
  k0_pay29 (k0_pay12 z et e2) (k0_pay16 (k0_pay12 z et e2) (k0_pay13 z et e2) (k0_pay15 z et e2))
    (k0_pay25 (k0_pay20 (k0_pay12 z et e2) zt et) (k0_pay21 (k0_pay12 z et e2) zt et) (k0_pay23 (k0_pay12 z et e2) zt et)
      (k0_pay24 (k0_pay12 z et e2) zt et))
    (k0_pay26 (k0_pay18 zt) (k0_pay19 (k0_pay12 z et e2) (k0_pay13 z et e2) (k0_pay15 z et e2) et))
    (k0_pay27 (k0_pay18 zt) (k0_pay19 (k0_pay12 z et e2) (k0_pay13 z et e2) (k0_pay15 z et e2) et))
    (k0_pay28 (k0_pay18 zt) (k0_pay19 (k0_pay12 z et e2) (k0_pay13 z et e2) (k0_pay15 z et e2) et))

/-- Which rows are marked for a second look. -/
def scFlg (z : Vec F S1024x32 .f32) (et : Vec F S32x1024 .f32) (e2 : Vec F S1x1024 .f32) : Vec F S1x1x1024 .i32 :=
  k0_pay30 (k0_pay17 (F := F) (k0_pay14 z et e2))

/-- How many rows of each group of eight are marked. -/
def scSum (z : Vec F S1024x32 .f32) (et : Vec F S32x1024 .f32) (e2 : Vec F S1x1024 .f32) (w8 : Vec F S1024x128 .f32) :
    Vec F S1x1x128 .i32 :=
  k0_pay1 (k0_pay31 (k0_pay17 (F := F) (k0_pay14 z et e2)) w8)

/-- The copy of the rows. -/
def scOut (z : Vec F S1024x32 .f32) : Vec F S1024x32 .f32 := k0_pay7 z

/-- The running sum of the squared distances. -/
def scAcc (z : Vec F S1024x32 .f32) (et : Vec F S32x1024 .f32) (e2 : Vec F S1x1024 .f32) (acc : Vec F S1x1 .f32) :
    Vec F S1x1 .f32 :=
  k0_pay2 (k0_pay9 z et e2) (k0_pay10 z) acc

/-- The condition under which the point initialises the scratch and the running sum. -/
abbrev cond0 (i : grid0.Coords) : Prop :=
  (Scalar.cmpi .ne (Scalar.extui (Scalar.cmpi .eq (BitVec.ofNat 32 (i 0).val) 0#32)) 0#32) = 1#1

/-- It holds at the first point only. -/
theorem cond0_iff : ∀ t : Fin cfg0.N, cond0 (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [cond0, e0]
    word_cmp
   : ∀ t : Fin grid0.N, cond0 (grid0.coords t) ↔ t.val % 2 = 0)

set_option maxHeartbeats 1000000 in
/-- The first point, from scratch at anything: the scratch is filled, the running sum starts from zero. -/
theorem score_first (c : Dev nD) (i : grid0.Coords) (arg1 : Memref sig .tc .vmem S1024x32 .f32) (harg1 : arg1.IsWhole) (arg2 : Memref sig .tc .vmem S32x1024 .f32) (harg2 : arg2.IsWhole) (arg3 : Memref sig .tc .vmem S32x1024 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x128 .i32) (harg6 : arg6.IsWhole) (arg7 : Memref sig .tc .vmem S1024x32 .f32) (harg7 : arg7.IsWhole) (arg8 : Memref sig .tc .vmem S1x1 .f32) (harg8 : arg8.IsWhole) (arg9 : Memref sig .tc .vmem S1x1024 .f32) (harg9 : arg9.IsWhole) (arg10 : Memref sig .tc .vmem S1024x128 .f32) (harg10 : arg10.IsWhole)
    (hc : cond0 i) (z : Vec F S1024x32 .f32) (zt et : Vec F S32x1024 .f32) (E : Set ℕ) (K : PUnit → sProp 𝕄) :
    iprop(owns (c : Thread nD τ) arg1 fullShare z ∗ owns (c : Thread nD τ) arg2 fullShare zt ∗ owns (c : Thread nD τ) arg3 fullShare et ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare z ∗ owns (c : Thread nD τ) arg2 fullShare zt ∗ owns (c : Thread nD τ) arg3 fullShare et ∗ owns (c : Thread nD τ) arg4 fullShare (scIdx z zt et (scE2 et)) ∗ owns (c : Thread nD τ) arg5 fullShare (scFlg z et (scE2 et)) ∗ owns (c : Thread nD τ) arg6 fullShare (scSum z et (scE2 et) scW8) ∗ owns (c : Thread nD τ) arg7 fullShare (scOut z) ∗ owns (c : Thread nD τ) arg8 fullShare (scAcc z et (scE2 et) (k0_pay4 (F := F))) ∗ owns (c : Thread nD τ) arg9 fullShare (scE2 et) ∗ owns (c : Thread nD τ) arg10 fullShare scW8) -∗ K ⟨⟩))
      ⊢ wp frame (wpE (defs₀ (F := F)) Variants.none c none) E (cc0__score_kernel i arg1 harg1 arg2 harg2 arg3 harg3 arg4 harg4 arg5 harg5 arg6 harg6 arg7 harg7 arg8 harg8 arg9 harg9 arg10 harg10) K := by
  simp only [cc0__score_kernel_eq_skeleton]; unfold cc0__score_kernel_skel
  simp only [k0_part2_eq_skeleton, k0_part1_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | sl_exact hc)
  sl_step
  have rd1 : View.readAt (Elt F) arg1.view (Rect.unit (s := S1024x32) ![0, 0] S1024x32.size inb_S1024x32_S1024x32_0_0).toLoadRect (harg1.unread z) = z :=
    readAt_whole harg1 z _ (by decide)
  have rd2 : View.readAt (Elt F) arg2.view (Rect.unit (s := S32x1024) ![0, 0] S32x1024.size inb_S32x1024_S32x1024_0_0).toLoadRect (harg2.unread zt) = zt :=
    readAt_whole harg2 zt _ (by decide)
  have rd3 : View.readAt (Elt F) arg3.view (Rect.unit (s := S32x1024) ![0, 0] S32x1024.size inb_S32x1024_S32x1024_0_0).toLoadRect (harg3.unread et) = et :=
    readAt_whole harg3 et _ (by decide)
  have rd8 : arg8.view.readCov [(⟨Rect.unit (s := S1x1) ![0, 0] S1x1.size inb_S1x1_S1x1_0_0, (k0_pay4 (F := F))⟩ : View.Piece (Elt F) S1x1 .f32)]
      (Rect.unit (s := S1x1) ![0, 0] S1x1.size inb_S1x1_S1x1_0_0).toLoadRect = (k0_pay4 (F := F)) :=
    View.readCov_unit_lit _ _ _ (by decide)
  have rd9 : arg9.view.readCov [(⟨Rect.unit (s := S1x1024) ![0, 0] S1x1024.size inb_S1x1024_S1x1024_0_0, (k0_pay3 et)⟩ : View.Piece (Elt F) S1x1024 .f32)]
      (Rect.unit (s := S1x1024) ![0, 0] S1x1024.size inb_S1x1024_S1x1024_0_0).toLoadRect = (k0_pay3 et) :=
    View.readCov_unit_lit _ _ _ (by decide)
  have rd10 : arg10.view.readCov [(⟨Rect.unit (s := S1024x128) ![0, 0] S1024x128.size inb_S1024x128_S1024x128_0_0, (k0_pay6 (k0_pay5 (F := F)))⟩ : View.Piece (Elt F) S1024x128 .f32)]
      (Rect.unit (s := S1024x128) ![0, 0] S1024x128.size inb_S1024x128_S1024x128_0_0).toLoadRect = (k0_pay6 (k0_pay5 (F := F))) :=
    View.readCov_unit_lit _ _ _ (by decide)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (read_stored _ _ _ _ _ (by decide)).trans ?_
    delta score_first.sl.r score_first.sl.r_1 score_first.sl.r_2 score_first.sl.r_3 score_first.sl.r_4 score_first.sl.r_5 score_first.sl.r_6 score_first.sl.r_7 score_first.sl.r_8 score_first.sl.r_9 score_first.sl.r_10 score_first.sl.r_11 score_first.sl.r_12 score_first.sl.r_13 score_first.sl.r_14 score_first.sl.r_15 score_first.sl.r_16 score_first.sl.r_17 score_first.sl.r_18 score_first.sl.r_19 score_first.sl.v189 score_first.sl.v197 score_first.sl.v8 score_first.sl.H7_1 score_first.sl.HS0_1 score_first.sl.HS1_1 scIdx scFlg scSum scOut scAcc scE2 scW8
    simp only [rd1, rd2, rd3, rd8, rd9, rd10]
  isplitl [H4]
  · iexists _; isplitr; swap; · iexact H4
    ipureintro
    refine (read_stored _ _ _ _ _ (by decide)).trans ?_
    delta score_first.sl.r score_first.sl.r_1 score_first.sl.r_2 score_first.sl.r_3 score_first.sl.r_4 score_first.sl.r_5 score_first.sl.r_6 score_first.sl.r_7 score_first.sl.r_8 score_first.sl.r_9 score_first.sl.r_10 score_first.sl.r_11 score_first.sl.r_12 score_first.sl.r_13 score_first.sl.r_14 score_first.sl.r_15 score_first.sl.r_16 score_first.sl.r_17 score_first.sl.r_18 score_first.sl.r_19 score_first.sl.v189 score_first.sl.v197 score_first.sl.v8 score_first.sl.H7_1 score_first.sl.HS0_1 score_first.sl.HS1_1 scIdx scFlg scSum scOut scAcc scE2 scW8
    simp only [rd1, rd2, rd3, rd8, rd9, rd10]
  isplitl [H5]
  · iexists _; isplitr; swap; · iexact H5
    ipureintro
    refine (read_stored _ _ _ _ _ (by decide)).trans ?_
    delta score_first.sl.r score_first.sl.r_1 score_first.sl.r_2 score_first.sl.r_3 score_first.sl.r_4 score_first.sl.r_5 score_first.sl.r_6 score_first.sl.r_7 score_first.sl.r_8 score_first.sl.r_9 score_first.sl.r_10 score_first.sl.r_11 score_first.sl.r_12 score_first.sl.r_13 score_first.sl.r_14 score_first.sl.r_15 score_first.sl.r_16 score_first.sl.r_17 score_first.sl.r_18 score_first.sl.r_19 score_first.sl.v189 score_first.sl.v197 score_first.sl.v8 score_first.sl.H7_1 score_first.sl.HS0_1 score_first.sl.HS1_1 scIdx scFlg scSum scOut scAcc scE2 scW8
    simp only [rd1, rd2, rd3, rd8, rd9, rd10]
  isplitl [H6]
  · iexists _; isplitr; swap; · iexact H6
    ipureintro
    refine (read_stored _ _ _ _ _ (by decide)).trans ?_
    delta score_first.sl.r score_first.sl.r_1 score_first.sl.r_2 score_first.sl.r_3 score_first.sl.r_4 score_first.sl.r_5 score_first.sl.r_6 score_first.sl.r_7 score_first.sl.r_8 score_first.sl.r_9 score_first.sl.r_10 score_first.sl.r_11 score_first.sl.r_12 score_first.sl.r_13 score_first.sl.r_14 score_first.sl.r_15 score_first.sl.r_16 score_first.sl.r_17 score_first.sl.r_18 score_first.sl.r_19 score_first.sl.v189 score_first.sl.v197 score_first.sl.v8 score_first.sl.H7_1 score_first.sl.HS0_1 score_first.sl.HS1_1 scIdx scFlg scSum scOut scAcc scE2 scW8
    simp only [rd1, rd2, rd3, rd8, rd9, rd10]
  isplitl [H7]
  · iexists _; isplitr; swap; · iexact H7
    ipureintro
    refine (read_stored _ _ _ _ _ (by decide)).trans ?_
    delta score_first.sl.r score_first.sl.r_1 score_first.sl.r_2 score_first.sl.r_3 score_first.sl.r_4 score_first.sl.r_5 score_first.sl.r_6 score_first.sl.r_7 score_first.sl.r_8 score_first.sl.r_9 score_first.sl.r_10 score_first.sl.r_11 score_first.sl.r_12 score_first.sl.r_13 score_first.sl.r_14 score_first.sl.r_15 score_first.sl.r_16 score_first.sl.r_17 score_first.sl.r_18 score_first.sl.r_19 score_first.sl.v189 score_first.sl.v197 score_first.sl.v8 score_first.sl.H7_1 score_first.sl.HS0_1 score_first.sl.HS1_1 scIdx scFlg scSum scOut scAcc scE2 scW8
    simp only [rd1, rd2, rd3, rd8, rd9, rd10]
  isplitl [HS0]
  · iexists _; isplitr; swap; · iexact HS0
    ipureintro
    refine (read_stored _ _ _ _ _ (by decide)).trans ?_
    delta score_first.sl.r score_first.sl.r_1 score_first.sl.r_2 score_first.sl.r_3 score_first.sl.r_4 score_first.sl.r_5 score_first.sl.r_6 score_first.sl.r_7 score_first.sl.r_8 score_first.sl.r_9 score_first.sl.r_10 score_first.sl.r_11 score_first.sl.r_12 score_first.sl.r_13 score_first.sl.r_14 score_first.sl.r_15 score_first.sl.r_16 score_first.sl.r_17 score_first.sl.r_18 score_first.sl.r_19 score_first.sl.v189 score_first.sl.v197 score_first.sl.v8 score_first.sl.H7_1 score_first.sl.HS0_1 score_first.sl.HS1_1 scIdx scFlg scSum scOut scAcc scE2 scW8
    simp only [rd1, rd2, rd3, rd8, rd9, rd10]
  iexists _; isplitr; swap; · iexact HS1
  ipureintro
  exact read_stored _ _ _ _ _ (by decide)

set_option maxHeartbeats 1000000 in
/-- A later point, from the scratch as the first point filled it: the running sum goes on from what it was. -/
theorem score_next (c : Dev nD) (i : grid0.Coords) (arg1 : Memref sig .tc .vmem S1024x32 .f32) (harg1 : arg1.IsWhole) (arg2 : Memref sig .tc .vmem S32x1024 .f32) (harg2 : arg2.IsWhole) (arg3 : Memref sig .tc .vmem S32x1024 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x128 .i32) (harg6 : arg6.IsWhole) (arg7 : Memref sig .tc .vmem S1024x32 .f32) (harg7 : arg7.IsWhole) (arg8 : Memref sig .tc .vmem S1x1 .f32) (harg8 : arg8.IsWhole) (arg9 : Memref sig .tc .vmem S1x1024 .f32) (harg9 : arg9.IsWhole) (arg10 : Memref sig .tc .vmem S1024x128 .f32) (harg10 : arg10.IsWhole)
    (hc : ¬ cond0 i) (z : Vec F S1024x32 .f32) (zt et : Vec F S32x1024 .f32) (acc : Vec F S1x1 .f32) (e2 : Vec F S1x1024 .f32) (w8 : Vec F S1024x128 .f32) (E : Set ℕ) (K : PUnit → sProp 𝕄) :
    iprop(owns (c : Thread nD τ) arg1 fullShare z ∗ owns (c : Thread nD τ) arg2 fullShare zt ∗ owns (c : Thread nD τ) arg3 fullShare et ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare acc ∗ owns (c : Thread nD τ) arg9 fullShare e2 ∗ owns (c : Thread nD τ) arg10 fullShare w8
        ∗ (iprop(owns (c : Thread nD τ) arg1 fullShare z ∗ owns (c : Thread nD τ) arg2 fullShare zt ∗ owns (c : Thread nD τ) arg3 fullShare et ∗ owns (c : Thread nD τ) arg4 fullShare (scIdx z zt et e2) ∗ owns (c : Thread nD τ) arg5 fullShare (scFlg z et e2) ∗ owns (c : Thread nD τ) arg6 fullShare (scSum z et e2 w8) ∗ owns (c : Thread nD τ) arg7 fullShare (scOut z) ∗ owns (c : Thread nD τ) arg8 fullShare (scAcc z et e2 acc) ∗ owns (c : Thread nD τ) arg9 fullShare e2 ∗ owns (c : Thread nD τ) arg10 fullShare w8) -∗ K ⟨⟩))
      ⊢ wp frame (wpE (defs₀ (F := F)) Variants.none c none) E (cc0__score_kernel i arg1 harg1 arg2 harg2 arg3 harg3 arg4 harg4 arg5 harg5 arg6 harg6 arg7 harg7 arg8 harg8 arg9 harg9 arg10 harg10) K := by
  simp only [cc0__score_kernel_eq_skeleton]; unfold cc0__score_kernel_skel
  simp only [k0_part2_eq_skeleton, k0_part1_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg8.eq_unread hf7; obtain rfl := harg9.eq_unread hfs0; obtain rfl := harg10.eq_unread hfs1
  sl_exec (disch := first | sl_exact hc)
  sl_step
  have rd1 : View.readAt (Elt F) arg1.view (Rect.unit (s := S1024x32) ![0, 0] S1024x32.size inb_S1024x32_S1024x32_0_0).toLoadRect (harg1.unread z) = z :=
    readAt_whole harg1 z _ (by decide)
  have rd2 : View.readAt (Elt F) arg2.view (Rect.unit (s := S32x1024) ![0, 0] S32x1024.size inb_S32x1024_S32x1024_0_0).toLoadRect (harg2.unread zt) = zt :=
    readAt_whole harg2 zt _ (by decide)
  have rd3 : View.readAt (Elt F) arg3.view (Rect.unit (s := S32x1024) ![0, 0] S32x1024.size inb_S32x1024_S32x1024_0_0).toLoadRect (harg3.unread et) = et :=
    readAt_whole harg3 et _ (by decide)
  have rd8 : View.readAt (Elt F) arg8.view (Rect.unit (s := S1x1) ![0, 0] S1x1.size inb_S1x1_S1x1_0_0).toLoadRect (harg8.unread acc) = acc :=
    readAt_whole harg8 acc _ (by decide)
  have rd9 : View.readAt (Elt F) arg9.view (Rect.unit (s := S1x1024) ![0, 0] S1x1024.size inb_S1x1024_S1x1024_0_0).toLoadRect (harg9.unread e2) = e2 :=
    readAt_whole harg9 e2 _ (by decide)
  have rd10 : View.readAt (Elt F) arg10.view (Rect.unit (s := S1024x128) ![0, 0] S1024x128.size inb_S1024x128_S1024x128_0_0).toLoadRect (harg10.unread w8) = w8 :=
    readAt_whole harg10 w8 _ (by decide)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (read_stored _ _ _ _ _ (by decide)).trans ?_
    delta score_next.sl.r score_next.sl.r_1 score_next.sl.r_2 score_next.sl.r_3 score_next.sl.r_4 score_next.sl.r_5 score_next.sl.r_6 score_next.sl.r_7 score_next.sl.r_8 score_next.sl.r_9 score_next.sl.r_10 score_next.sl.r_11 score_next.sl.r_12 score_next.sl.r_13 score_next.sl.r_14 score_next.sl.r_15 score_next.sl.r_16 score_next.sl.r_17 score_next.sl.r_18 score_next.sl.r_19 scIdx scFlg scSum scOut scAcc scE2 scW8
    simp only [rd1, rd2, rd3, rd8, rd9, rd10]
  isplitl [H4]
  · iexists _; isplitr; swap; · iexact H4
    ipureintro
    refine (read_stored _ _ _ _ _ (by decide)).trans ?_
    delta score_next.sl.r score_next.sl.r_1 score_next.sl.r_2 score_next.sl.r_3 score_next.sl.r_4 score_next.sl.r_5 score_next.sl.r_6 score_next.sl.r_7 score_next.sl.r_8 score_next.sl.r_9 score_next.sl.r_10 score_next.sl.r_11 score_next.sl.r_12 score_next.sl.r_13 score_next.sl.r_14 score_next.sl.r_15 score_next.sl.r_16 score_next.sl.r_17 score_next.sl.r_18 score_next.sl.r_19 scIdx scFlg scSum scOut scAcc scE2 scW8
    simp only [rd1, rd2, rd3, rd8, rd9, rd10]
  isplitl [H5]
  · iexists _; isplitr; swap; · iexact H5
    ipureintro
    refine (read_stored _ _ _ _ _ (by decide)).trans ?_
    delta score_next.sl.r score_next.sl.r_1 score_next.sl.r_2 score_next.sl.r_3 score_next.sl.r_4 score_next.sl.r_5 score_next.sl.r_6 score_next.sl.r_7 score_next.sl.r_8 score_next.sl.r_9 score_next.sl.r_10 score_next.sl.r_11 score_next.sl.r_12 score_next.sl.r_13 score_next.sl.r_14 score_next.sl.r_15 score_next.sl.r_16 score_next.sl.r_17 score_next.sl.r_18 score_next.sl.r_19 scIdx scFlg scSum scOut scAcc scE2 scW8
    simp only [rd1, rd2, rd3, rd8, rd9, rd10]
  isplitl [H6]
  · iexists _; isplitr; swap; · iexact H6
    ipureintro
    refine (read_stored _ _ _ _ _ (by decide)).trans ?_
    delta score_next.sl.r score_next.sl.r_1 score_next.sl.r_2 score_next.sl.r_3 score_next.sl.r_4 score_next.sl.r_5 score_next.sl.r_6 score_next.sl.r_7 score_next.sl.r_8 score_next.sl.r_9 score_next.sl.r_10 score_next.sl.r_11 score_next.sl.r_12 score_next.sl.r_13 score_next.sl.r_14 score_next.sl.r_15 score_next.sl.r_16 score_next.sl.r_17 score_next.sl.r_18 score_next.sl.r_19 scIdx scFlg scSum scOut scAcc scE2 scW8
    simp only [rd1, rd2, rd3, rd8, rd9, rd10]
  isplitl [H7]
  · iexists _; isplitr; swap; · iexact H7
    ipureintro
    refine (read_stored _ _ _ _ _ (by decide)).trans ?_
    delta score_next.sl.r score_next.sl.r_1 score_next.sl.r_2 score_next.sl.r_3 score_next.sl.r_4 score_next.sl.r_5 score_next.sl.r_6 score_next.sl.r_7 score_next.sl.r_8 score_next.sl.r_9 score_next.sl.r_10 score_next.sl.r_11 score_next.sl.r_12 score_next.sl.r_13 score_next.sl.r_14 score_next.sl.r_15 score_next.sl.r_16 score_next.sl.r_17 score_next.sl.r_18 score_next.sl.r_19 scIdx scFlg scSum scOut scAcc scE2 scW8
    simp only [rd1, rd2, rd3, rd8, rd9, rd10]
  isplitl [HS0]
  · iexists _; isplitr; swap; · iexact HS0
    ipureintro
    exact harg9.read_unread _
  iexists _; isplitr; swap; · iexact HS1
  ipureintro
  exact harg10.read_unread _

end Cert.KernelIdeal.Own

end
-- ==== Proof.Ideal.ScoreRegion.lean ====
/- The first kernel's launch as a whole: what every array holds after it, from what the arrays held before. -/
module

public import proofs.«01_k».proof.Proof.Ideal.ScoreBody
public import Idealize.ShloMosaic.Lib.Pipeline.RegionArraysT

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the launch finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point. -/
theorem sblk_before0 {c : Dev nD} (dat : Dat τ (Elt F) Unit ℕ (UR sig nD τ) ℕ cfg0 c) (hA : dat.A 0 = V c (Pipeline.arrRef spec0 0))
    (hafter : ∀ t, dat.after 0 t = sblk V c 0 t) (t : Fin cfg0.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)
/-- Input window 1 holds its block at every point. -/
theorem sblk_before1 {c : Dev nD} (dat : Dat τ (Elt F) Unit ℕ (UR sig nD τ) ℕ cfg0 c) (hA : dat.A 1 = V c (Pipeline.arrRef spec0 1))
    (hafter : ∀ t, dat.after 1 t = sblk V c 1 t) (t : Fin cfg0.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)
/-- Input window 2 holds its block at every point. -/
theorem sblk_before2 {c : Dev nD} (dat : Dat τ (Elt F) Unit ℕ (UR sig nD τ) ℕ cfg0 c) (hA : dat.A 2 = V c (Pipeline.arrRef spec0 2))
    (hafter : ∀ t, dat.after 2 t = sblk V c 2 t) (t : Fin cfg0.N) (d) : dat.before 2 t d = sblk V c 2 t :=
  (dat.before_in_eq_fetched 2 rfl (fun _ => rfl) (fun _ _ _ => rfl) (fun t => by rw [hafter]; unfold Dat.blockOf sblk; rw [hA]; try rfl) t d).trans
    (by unfold Dat.fetched Dat.blockOf sblk; rw [hA]; try rfl)

/-- The code vectors' squared norms, from the code book's block. -/
def rE2 (c : Dev nD) : Vec F S1x1024 .f32 := scE2 (sblk V c 2 t0_0)

/-- The running sum after point `t`. -/
def rAcc (c : Dev nD) (t : Fin cfg0.N) : Vec F S1x1 .f32 :=
  if t.val = 0 then scAcc (sblk V c 0 t) (sblk V c 2 t) (rE2 V c) (k0_pay4 (F := F))
  else scAcc (sblk V c 0 t) (sblk V c 2 t) (rE2 V c) (scAcc (sblk V c 0 t0_0) (sblk V c 2 t0_0) (rE2 V c) (k0_pay4 (F := F)))

/-- The two scratch buffers. -/
abbrev scM0 : Memref sig .tc .vmem S1x1024 .f32 := Memref.whole cc0_scratch0
abbrev scM1 : Memref sig .tc .vmem S1024x128 .f32 := Memref.whole cc0_scratch1

/-- The scoped buffers the first launch leaves alone. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped rest, the scratch buffers as owned memrefs. -/
theorem PhiA0 (c : Dev nD) :
    (Pipeline.ΦA spec0 c : sProp 𝕄)
      = iprop(iprop((∃ d, owns (c : Thread nD τ) scM0 fullShare d) ∗ (∃ d, owns (c : Thread nD τ) scM1 fullShare d) ∗ others0 c) ∗ (∃ r, prngReg c r)) := by
  unfold Pipeline.ΦA; rw [scopedRest0_eq]; simp only [scM0, scM1, owns_whole]; try rfl

/-- What holds between points: before the first the scratch is at anything, afterwards as the first point filled it. -/
def scPhi (c : Dev nD) (n : ℕ) : sProp 𝕄 :=
  if n = 0 then Pipeline.ΦA spec0 c
  else iprop(iprop(owns (c : Thread nD τ) scM0 fullShare (rE2 V c) ∗ owns (c : Thread nD τ) scM1 fullShare (scW8 (F := F)) ∗ others0 c) ∗ (∃ r, prngReg c r))

/-- The proof data of the first launch. -/
def dat0 (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => sblk V c 2 t
    | ⟨3, _⟩ => scIdx (sblk V c 0 t) (sblk V c 1 t) (sblk V c 2 t) (rE2 V c)
    | ⟨4, _⟩ => scFlg (sblk V c 0 t) (sblk V c 2 t) (rE2 V c)
    | ⟨5, _⟩ => scSum (sblk V c 0 t) (sblk V c 2 t) (rE2 V c) (scW8 (F := F))
    | ⟨6, _⟩ => scOut (sblk V c 0 t)
    | ⟨7, _⟩ => rAcc V c t
  Φ t := scPhi V c t.val
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = sblk V c 0 t := by dsimp only [dat0]
theorem after0_1 (c : Dev nD) (t : Fin cfg0.N) : (dat0 V c).after 1 t = sblk V c 1 t := by dsimp only [dat0]
theorem after0_2 (c : Dev nD) (t : Fin cfg0.N) : (dat0 V c).after 2 t = sblk V c 2 t := by dsimp only [dat0]
theorem after0_3 (c : Dev nD) (t : Fin cfg0.N) : (dat0 V c).after 3 t = scIdx (sblk V c 0 t) (sblk V c 1 t) (sblk V c 2 t) (rE2 V c) := by dsimp only [dat0]
theorem after0_4 (c : Dev nD) (t : Fin cfg0.N) : (dat0 V c).after 4 t = scFlg (sblk V c 0 t) (sblk V c 2 t) (rE2 V c) := by dsimp only [dat0]
theorem after0_5 (c : Dev nD) (t : Fin cfg0.N) : (dat0 V c).after 5 t = scSum (sblk V c 0 t) (sblk V c 2 t) (rE2 V c) (scW8 (F := F)) := by dsimp only [dat0]
theorem after0_6 (c : Dev nD) (t : Fin cfg0.N) : (dat0 V c).after 6 t = scOut (sblk V c 0 t) := by dsimp only [dat0]
theorem after0_7 (c : Dev nD) (t : Fin cfg0.N) : (dat0 V c).after 7 t = rAcc V c t := by dsimp only [dat0]

theorem before0_0 (c : Dev nD) (t : Fin cfg0.N) (d) : (dat0 V c).before 0 t d = sblk V c 0 t :=
  sblk_before0 V (dat0 V c) (dat0_A V c 0) (after0_0 V c) t d
theorem before0_1 (c : Dev nD) (t : Fin cfg0.N) (d) : (dat0 V c).before 1 t d = sblk V c 1 t :=
  sblk_before1 V (dat0 V c) (dat0_A V c 1) (after0_1 V c) t d
theorem before0_2 (c : Dev nD) (t : Fin cfg0.N) (d) : (dat0 V c).before 2 t d = sblk V c 2 t :=
  sblk_before2 V (dat0 V c) (dat0_A V c 2) (after0_2 V c) t d

/-- The second point finds the running sum of the first. -/
theorem before0_7 (c : Dev nD) (d) : (dat0 V c).before 7 t0_1 d = rAcc V c t0_0 := by
  refine ((dat0 V c).before_out_kept 7 rfl t0_1 (by decide) ?_ (fun _ => rfl) (fun _ _ => rfl) d).trans (after0_7 V c t0_0)
  exact Bool.eq_false_iff.mpr fun h => absurd ((flush0_7 _).mp h) (by decide)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1600000 in
/-- The body at the first point. -/
theorem sound_body0_0 (c : Dev nD) :
    bodyPre0 V c t0_0 ⊢ wp frame (wpE (defs₀ (F := F)) Variants.none c none) Set.univ (bodyAt0 t0_0) (fun _ => bodyPost0 V c t0_0) := by
  unfold bodyPre0 bodyPost0 bodyAt0
  simp only [before0_0, before0_1, before0_2]
  rw [show (dat0 V c).owesAt () t0_0.succ = (dat0 V c).owesAt () t0_0.castSucc from rfl,
    after0_0, after0_1, after0_2, after0_3, after0_4, after0_5, after0_6, after0_7,
    show (dat0 V c).Φ t0_0.castSucc = Pipeline.ΦA spec0 c from rfl, PhiA0,
    show (dat0 V c).Φ t0_0.succ = iprop(iprop(owns (c : Thread nD τ) scM0 fullShare (rE2 V c) ∗ owns (c : Thread nD τ) scM1 fullShare (scW8 (F := F)) ∗ others0 c) ∗ (∃ r, prngReg c r)) from rfl,
    show rAcc V c t0_0 = scAcc (sblk V c 0 t0_0) (sblk V c 2 t0_0) (rE2 V c) (k0_pay4 (F := F)) from rfl]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (score_first c (grid0.coords t0_0) _ _ _ _ _ _ _ _ _ _ _ _ _ _ _ _ _ _ _ _ ((cond0_iff t0_0).mpr rfl) (sblk V c 0 t0_0) (sblk V c 1 t0_0) (sblk V c 2 t0_0) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hoth Hg]
  · isplitr [Hg]
    · isplitl [HS0]; · iexact HS0
      isplitl [HS1]; · iexact HS1
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- The body at the second point. -/
theorem sound_body0_1 (c : Dev nD) :
    bodyPre0 V c t0_1 ⊢ wp frame (wpE (defs₀ (F := F)) Variants.none c none) Set.univ (bodyAt0 t0_1) (fun _ => bodyPost0 V c t0_1) := by
  unfold bodyPre0 bodyPost0 bodyAt0
  simp only [before0_0, before0_1, before0_2, before0_7]
  rw [show (dat0 V c).owesAt () t0_1.succ = (dat0 V c).owesAt () t0_1.castSucc from rfl,
    after0_0, after0_1, after0_2, after0_3, after0_4, after0_5, after0_6, after0_7,
    show (dat0 V c).Φ t0_1.castSucc = iprop(iprop(owns (c : Thread nD τ) scM0 fullShare (rE2 V c) ∗ owns (c : Thread nD τ) scM1 fullShare (scW8 (F := F)) ∗ others0 c) ∗ (∃ r, prngReg c r)) from rfl,
    show (dat0 V c).Φ t0_1.succ = iprop(iprop(owns (c : Thread nD τ) scM0 fullShare (rE2 V c) ∗ owns (c : Thread nD τ) scM1 fullShare (scW8 (F := F)) ∗ others0 c) ∗ (∃ r, prngReg c r)) from rfl,
    show rAcc V c t0_1 = scAcc (sblk V c 0 t0_1) (sblk V c 2 t0_1) (rE2 V c) (rAcc V c t0_0) from rfl]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (score_next c (grid0.coords t0_1) _ _ _ _ _ _ _ _ _ _ _ _ _ _ _ _ _ _ _ _ (fun h => absurd ((cond0_iff t0_1).mp h) (by decide)) (sblk V c 0 t0_1) (sblk V c 1 t0_1) (sblk V c 2 t0_1) (rAcc V c t0_0) (rE2 V c) (scW8 (F := F)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [HS0 HS1 Hoth Hg]
  · isplitr [Hg]
    · isplitl [HS0]; · iexact HS0
      isplitl [HS1]; · iexact HS1
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body does at every point what the proof data says. -/
theorem body_obligation0 (c : Dev nD) : BodyObligation (dat0 (F := F) V c) (defs₀ (F := F)) Variants.none () Set.univ := fun t => by
  rw [bigSep_W0, bigSep_W0, defs₀_row0]
  rcases fin_N0 t with rfl | rfl
  · exact triple_restated (sound_body0_0 V c) rfl .rfl fun _ => .rfl
  · exact triple_restated (sound_body0_1 V c) rfl .rfl fun _ => .rfl

end Region

end Cert.KernelIdeal.Own

end
-- ==== Proof.Ideal.PatchWords.lean ====
/- The second kernel's index arithmetic: its loops' trip counts and the rows it touches, all in bounds. -/
module

public import proofs.«01_k».proof.Proof.Ideal.ScoreBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Trip counts -/

theorem t1_trips : k1_t1_loop.trips = 256 := by decide +kernel

theorem t2_loop_zero (v : BitVec 32) (h : v = 0#32) : k1_t2_loop v = ⟨0#32, 0#32, 1#32⟩ := by
  subst h; unfold k1_t2_loop; dsimp only; rw [Scf.Loop.mk.injEq]; decide +kernel

theorem ne_word (v : BitVec 32) : Scalar.cmpi .ne v 0#32 = if v = 0#32 then 0#1 else 1#1 := by
  by_cases h : v = 0#32
  · subst h; rfl
  · rw [if_neg h]; show BitVec.ofBool (v != 0#32) = 1#1
    rw [bne_iff_ne.mpr h]; rfl

theorem t2_loop_pos (v : BitVec 32) (h : v ≠ 0#32) : k1_t2_loop v = ⟨0#32, 8#32, 1#32⟩ := by
  unfold k1_t2_loop; dsimp only; rw [ne_word, if_neg h, Scf.Loop.mk.injEq]; decide +kernel

theorem t3_loop_zero (v : BitVec 32) (h : v = 0#32) : k1_t3_loop v = ⟨0#32, 0#32, 1#32⟩ := by
  subst h; unfold k1_t3_loop; dsimp only; rw [Scf.Loop.mk.injEq]; decide +kernel

theorem t3_loop_pos (v : BitVec 32) (h : v ≠ 0#32) : k1_t3_loop v = ⟨8#32, 8#32, 1#32⟩ := by
  unfold k1_t3_loop; dsimp only; rw [ne_word, if_neg h, Scf.Loop.mk.injEq]; decide +kernel

theorem t2_trips_le (v : BitVec 32) : (k1_t2_loop v).trips ≤ 8 := by
  by_cases h : v = 0#32
  · rw [t2_loop_zero v h]; decide +kernel
  · rw [t2_loop_pos v h]; decide +kernel

/-- The inner remainder loop has no trip. -/
theorem t3_trips (v : BitVec 32) : (k1_t3_loop v).trips = 0 := by
  by_cases h : v = 0#32
  · rw [t3_loop_zero v h]; decide +kernel
  · rw [t3_loop_pos v h]; decide +kernel

theorem t2_OK (v : BitVec 32) : (k1_t2_loop v).OK := by
  by_cases h : v = 0#32
  · rw [t2_loop_zero v h]; decide +kernel
  · rw [t2_loop_pos v h]; decide +kernel

theorem t3_OK (v : BitVec 32) : (k1_t3_loop v).OK := by
  by_cases h : v = 0#32
  · rw [t3_loop_zero v h]; decide +kernel
  · rw [t3_loop_pos v h]; decide +kernel

/-- The row number a trip of the inner loop looks at. -/
def rowWord (k j : ℕ) : BitVec 32 := Scalar.addi (Scalar.muli (Scf.iv 0#32 1#32 k) 8#32) (Scf.iv 0#32 1#32 j)

theorem rowWord_toNat (k j : ℕ) (hk : k < 256) (hj : j < 8) : (rowWord k j).toNat = 8 * k + j := by
  unfold rowWord Scf.iv Scalar.addi Scalar.muli IntOp.addi IntOp.muli
  simp only [BitVec.toNat_add, BitVec.toNat_mul, BitVec.toNat_ofNat, BitVec.ofNat_eq_ofNat]
  omega

theorem off2_eq (k : Fin k1_t1_loop.trips) (v : BitVec 32) (j : Fin (k1_t2_loop v).trips) : k1_off2 k v j = ![(rowWord k.val j.val).toNat] := rfl

/-- The outer loop's check: whatever word was read, its two inner loops are in order and read in bounds. -/
theorem chk1_holds (k : Fin k1_t1_loop.trips) (v : BitVec 32) : k1_chk1 k v := by
  refine ⟨t2_OK v, fun j a => ?_, t3_OK v, fun j => (Nat.not_lt_zero _ (Nat.lt_of_lt_of_eq j.isLt (t3_trips v))).elim⟩
  have hk : k.val < 256 := Nat.lt_of_lt_of_eq k.isLt t1_trips
  have hj : j.val < 8 := Nat.lt_of_lt_of_le j.isLt (t2_trips_le v)
  rw [off2_eq, rowWord_toNat _ _ hk hj]
  fin_cases a
  show 8 * k.val + j.val + 1 ≤ 2048
  omega

/-- A word below half the range compares as a natural number. -/
theorem slt_iff (x y : BitVec 32) (hx : x.toNat < 2 ^ 31) (hy : y.toNat < 2 ^ 31) : Scalar.cmpi .slt x y = 1#1 ↔ x.toNat < y.toNat := by
  have e : Scalar.cmpi .slt x y = BitVec.ofBool (decide (x.toInt < y.toInt)) := rfl
  rw [e, BitVec.toInt_eq_toNat_of_lt (by omega), BitVec.toInt_eq_toNat_of_lt (by omega)]
  by_cases h : x.toNat < y.toNat
  · simp [h]
  · simp [h]

/-- The conditional's word: both the flag is set and the count is below the capacity. -/
theorem cond1_lt (a v : BitVec 32) (ha : a.toNat ≤ 2048) (h : k1_cond1 a v = 1#1) : a.toNat < 1024 := by
  by_contra hc
  have e : Scalar.cmpi .slt a 1024#32 = 0#1 := by
    have h0 : ¬ Scalar.cmpi .slt a 1024#32 = 1#1 := fun hh => hc ((slt_iff a 1024#32 (by omega) (by decide)).mp hh)
    have h1 : ∀ b : BitVec 1, ¬ b = 1#1 → b = 0#1 := by decide
    exact h1 _ h0
  unfold k1_cond1 at h; dsimp only at h
  rw [e] at h
  have : ∀ b : BitVec 1, ¬ Scalar.cmpi .ne (Scalar.extui (Scalar.andi b 0#1) : BitVec 32) 0#32 = 1#1 := by decide
  exact this _ h

theorem chk2_holds (a v : BitVec 32) (ha : a.toNat ≤ 2048) : k1_chk2 a v := by
  intro h b
  have hl := cond1_lt a v ha h
  have e : k1_off3 a = ![a.toNat] := rfl
  rw [e]; fin_cases b
  show a.toNat + 1 ≤ 1024
  omega

/-! ## The groups -/

/-- The number of groups for a count. -/
theorem t4_facts : ∀ n : Fin 2049, (k1_t4_loop (BitVec.ofNat 32 n.val)).OK ∧ (k1_t4_loop (BitVec.ofNat 32 n.val)).trips ≤ 128
    ∧ (k1_t5_loop (BitVec.ofNat 32 n.val)).OK ∧ (k1_t5_loop (BitVec.ofNat 32 n.val)).trips = 0 := by
  decide +kernel

theorem word_of (v : BitVec 32) (h : v.toNat ≤ 2048) : ∃ n : Fin 2049, v = BitVec.ofNat 32 n.val :=
  ⟨⟨v.toNat, by omega⟩, by simp⟩

theorem t4_trips_le (v : BitVec 32) (h : v.toNat ≤ 2048) : (k1_t4_loop v).trips ≤ 128 := by
  obtain ⟨n, rfl⟩ := word_of v h; exact (t4_facts n).2.1

/-- The groups' remainder loop has no trip. -/
theorem t5_trips (v : BitVec 32) (h : v.toNat ≤ 2048) : (k1_t5_loop v).trips = 0 := by
  obtain ⟨n, rfl⟩ := word_of v h; exact (t4_facts n).2.2.2

/-- The table position of row `r` of group `k`. -/
def posWord (k r : ℕ) : BitVec 32 := Scalar.addi (Scalar.muli (Scf.iv 0#32 1#32 k) 8#32) (BitVec.ofNat 32 r)

theorem posWord_toNat (k r : ℕ) (hk : k < 128) (hr : r < 8) : (posWord k r).toNat = 8 * k + r := by
  unfold posWord Scf.iv Scalar.addi Scalar.muli IntOp.addi IntOp.muli
  simp only [BitVec.toNat_add, BitVec.toNat_mul, BitVec.toNat_ofNat, BitVec.ofNat_eq_ofNat]
  omega

theorem off6_eq (v : BitVec 32) (k : Fin (k1_t4_loop v).trips) (r : ℕ) : k1_off6 v k (BitVec.ofNat 32 r) = ![(posWord k.val r).toNat] := rfl

theorem chk4_holds (v : BitVec 32) (h : v.toNat ≤ 2048) : k1_chk4 v := by
  refine ⟨?_, fun k r a => ?_, ?_, fun j => (Nat.not_lt_zero _ (Nat.lt_of_lt_of_eq j.isLt (t5_trips v h))).elim⟩
  · obtain ⟨n, rfl⟩ := word_of v h; exact (t4_facts n).1
  · have hk : k.val < 128 := Nat.lt_of_lt_of_le k.isLt (t4_trips_le v h)
    rw [off6_eq, posWord_toNat _ _ hk r.isLt]
    fin_cases a
    have hr := r.isLt
    show 8 * k.val + r.val + 1 ≤ 1024
    omega
  · obtain ⟨n, rfl⟩ := word_of v h; exact (t4_facts n).2.2.1

/-- The row taken for position `r` of group `k`: the listed one while the position is below the count, else row 0. -/
def selRow (v4 : BitVec 32) (k r : ℕ) (w : BitVec 32) : BitVec 32 :=
  Scalar.select (Scalar.cmpi .slt (posWord k r) (Scalar.minsi v4 1024#32)) w 0#32

/-- The words listed below the count are rows. -/
def IdsOk (ids : S1024.Idx → BitVec 32) (n : ℕ) : Prop := ∀ j : S1024.Idx, (j 0).val < n → (ids j).toNat < 2048

theorem minsi_le (v : BitVec 32) (h : v.toNat ≤ 2048) : (Scalar.minsi v 1024#32).toNat ≤ v.toNat ∧ (Scalar.minsi v 1024#32).toNat ≤ 1024 := by
  have : ∀ n : Fin 2049, (Scalar.minsi (BitVec.ofNat 32 n.val) 1024#32).toNat ≤ (BitVec.ofNat 32 n.val).toNat ∧ (Scalar.minsi (BitVec.ofNat 32 n.val) 1024#32).toNat ≤ 1024 := by
    decide +kernel
  obtain ⟨n, rfl⟩ := word_of v h; exact this n

theorem selRow_lt (v4 : BitVec 32) (h4 : v4.toNat ≤ 2048) (k r : ℕ) (hk : k < 128) (hr : r < 8) (w : BitVec 32)
    (hw : 8 * k + r < v4.toNat → w.toNat < 2048) : (selRow v4 k r w).toNat < 2048 := by
  unfold selRow
  obtain ⟨h1, h2⟩ := minsi_le v4 h4
  by_cases hc : Scalar.cmpi .slt (posWord k r) (Scalar.minsi v4 1024#32) = 1#1
  · have hl := (slt_iff _ _ (by rw [posWord_toNat _ _ hk hr]; omega) (by omega)).mp hc
    rw [posWord_toNat _ _ hk hr] at hl
    rw [hc]; exact hw (by omega)
  · have h1 : ∀ b : BitVec 1, ¬ b = 1#1 → b = 0#1 := by decide
    rw [h1 _ hc]; show (0#32 : BitVec 32).toNat < 2048; decide

theorem off7_eq (v4 : BitVec 32) (k : Fin (k1_t4_loop v4).trips) (w : BitVec 32) : k1_off7 v4 k w = ![(selRow v4 k.val 0 w).toNat, 0] := rfl
theorem off15_eq (v4 : BitVec 32) (k : Fin (k1_t4_loop v4).trips) (w : BitVec 32) : k1_off15 v4 k w = ![(selRow v4 k.val 0 w).toNat, 0] := rfl
theorem chk5_holds (v4 : BitVec 32) (h4 : v4.toNat ≤ 2048) (k : Fin (k1_t4_loop v4).trips) (w : BitVec 32)
    (hw : 8 * k.val + 0 < v4.toNat → w.toNat < 2048) : k1_chk5 v4 k w := by
  have hk : k.val < 128 := Nat.lt_of_lt_of_le k.isLt (t4_trips_le v4 h4)
  have hl := selRow_lt v4 h4 k.val 0 hk (by decide) w hw
  refine ⟨fun a => ?_, fun a => ?_⟩
  · rw [off7_eq]; fin_cases a
    · show (selRow v4 k.val 0 w).toNat + 1 ≤ 2048; omega
    · show 0 + 32 ≤ 32; omega
  · rw [off15_eq]; fin_cases a
    · show (selRow v4 k.val 0 w).toNat + 1 ≤ 2048; omega
    · show 0 + 1 ≤ 1; omega

theorem off8_eq (v4 : BitVec 32) (k : Fin (k1_t4_loop v4).trips) (w : BitVec 32) : k1_off8 v4 k w = ![(selRow v4 k.val 1 w).toNat, 0] := rfl
theorem off16_eq (v4 : BitVec 32) (k : Fin (k1_t4_loop v4).trips) (w : BitVec 32) : k1_off16 v4 k w = ![(selRow v4 k.val 1 w).toNat, 0] := rfl
theorem chk6_holds (v4 : BitVec 32) (h4 : v4.toNat ≤ 2048) (k : Fin (k1_t4_loop v4).trips) (w : BitVec 32)
    (hw : 8 * k.val + 1 < v4.toNat → w.toNat < 2048) : k1_chk6 v4 k w := by
  have hk : k.val < 128 := Nat.lt_of_lt_of_le k.isLt (t4_trips_le v4 h4)
  have hl := selRow_lt v4 h4 k.val 1 hk (by decide) w hw
  refine ⟨fun a => ?_, fun a => ?_⟩
  · rw [off8_eq]; fin_cases a
    · show (selRow v4 k.val 1 w).toNat + 1 ≤ 2048; omega
    · show 0 + 32 ≤ 32; omega
  · rw [off16_eq]; fin_cases a
    · show (selRow v4 k.val 1 w).toNat + 1 ≤ 2048; omega
    · show 0 + 1 ≤ 1; omega

theorem off9_eq (v4 : BitVec 32) (k : Fin (k1_t4_loop v4).trips) (w : BitVec 32) : k1_off9 v4 k w = ![(selRow v4 k.val 2 w).toNat, 0] := rfl
theorem off17_eq (v4 : BitVec 32) (k : Fin (k1_t4_loop v4).trips) (w : BitVec 32) : k1_off17 v4 k w = ![(selRow v4 k.val 2 w).toNat, 0] := rfl
theorem chk7_holds (v4 : BitVec 32) (h4 : v4.toNat ≤ 2048) (k : Fin (k1_t4_loop v4).trips) (w : BitVec 32)
    (hw : 8 * k.val + 2 < v4.toNat → w.toNat < 2048) : k1_chk7 v4 k w := by
  have hk : k.val < 128 := Nat.lt_of_lt_of_le k.isLt (t4_trips_le v4 h4)
  have hl := selRow_lt v4 h4 k.val 2 hk (by decide) w hw
  refine ⟨fun a => ?_, fun a => ?_⟩
  · rw [off9_eq]; fin_cases a
    · show (selRow v4 k.val 2 w).toNat + 1 ≤ 2048; omega
    · show 0 + 32 ≤ 32; omega
  · rw [off17_eq]; fin_cases a
    · show (selRow v4 k.val 2 w).toNat + 1 ≤ 2048; omega
    · show 0 + 1 ≤ 1; omega

theorem off10_eq (v4 : BitVec 32) (k : Fin (k1_t4_loop v4).trips) (w : BitVec 32) : k1_off10 v4 k w = ![(selRow v4 k.val 3 w).toNat, 0] := rfl
theorem off18_eq (v4 : BitVec 32) (k : Fin (k1_t4_loop v4).trips) (w : BitVec 32) : k1_off18 v4 k w = ![(selRow v4 k.val 3 w).toNat, 0] := rfl
theorem chk8_holds (v4 : BitVec 32) (h4 : v4.toNat ≤ 2048) (k : Fin (k1_t4_loop v4).trips) (w : BitVec 32)
    (hw : 8 * k.val + 3 < v4.toNat → w.toNat < 2048) : k1_chk8 v4 k w := by
  have hk : k.val < 128 := Nat.lt_of_lt_of_le k.isLt (t4_trips_le v4 h4)
  have hl := selRow_lt v4 h4 k.val 3 hk (by decide) w hw
  refine ⟨fun a => ?_, fun a => ?_⟩
  · rw [off10_eq]; fin_cases a
    · show (selRow v4 k.val 3 w).toNat + 1 ≤ 2048; omega
    · show 0 + 32 ≤ 32; omega
  · rw [off18_eq]; fin_cases a
    · show (selRow v4 k.val 3 w).toNat + 1 ≤ 2048; omega
    · show 0 + 1 ≤ 1; omega

theorem off11_eq (v4 : BitVec 32) (k : Fin (k1_t4_loop v4).trips) (w : BitVec 32) : k1_off11 v4 k w = ![(selRow v4 k.val 4 w).toNat, 0] := rfl
theorem off19_eq (v4 : BitVec 32) (k : Fin (k1_t4_loop v4).trips) (w : BitVec 32) : k1_off19 v4 k w = ![(selRow v4 k.val 4 w).toNat, 0] := rfl
theorem chk9_holds (v4 : BitVec 32) (h4 : v4.toNat ≤ 2048) (k : Fin (k1_t4_loop v4).trips) (w : BitVec 32)
    (hw : 8 * k.val + 4 < v4.toNat → w.toNat < 2048) : k1_chk9 v4 k w := by
  have hk : k.val < 128 := Nat.lt_of_lt_of_le k.isLt (t4_trips_le v4 h4)
  have hl := selRow_lt v4 h4 k.val 4 hk (by decide) w hw
  refine ⟨fun a => ?_, fun a => ?_⟩
  · rw [off11_eq]; fin_cases a
    · show (selRow v4 k.val 4 w).toNat + 1 ≤ 2048; omega
    · show 0 + 32 ≤ 32; omega
  · rw [off19_eq]; fin_cases a
    · show (selRow v4 k.val 4 w).toNat + 1 ≤ 2048; omega
    · show 0 + 1 ≤ 1; omega

theorem off12_eq (v4 : BitVec 32) (k : Fin (k1_t4_loop v4).trips) (w : BitVec 32) : k1_off12 v4 k w = ![(selRow v4 k.val 5 w).toNat, 0] := rfl
theorem off20_eq (v4 : BitVec 32) (k : Fin (k1_t4_loop v4).trips) (w : BitVec 32) : k1_off20 v4 k w = ![(selRow v4 k.val 5 w).toNat, 0] := rfl
theorem chk10_holds (v4 : BitVec 32) (h4 : v4.toNat ≤ 2048) (k : Fin (k1_t4_loop v4).trips) (w : BitVec 32)
    (hw : 8 * k.val + 5 < v4.toNat → w.toNat < 2048) : k1_chk10 v4 k w := by
  have hk : k.val < 128 := Nat.lt_of_lt_of_le k.isLt (t4_trips_le v4 h4)
  have hl := selRow_lt v4 h4 k.val 5 hk (by decide) w hw
  refine ⟨fun a => ?_, fun a => ?_⟩
  · rw [off12_eq]; fin_cases a
    · show (selRow v4 k.val 5 w).toNat + 1 ≤ 2048; omega
    · show 0 + 32 ≤ 32; omega
  · rw [off20_eq]; fin_cases a
    · show (selRow v4 k.val 5 w).toNat + 1 ≤ 2048; omega
    · show 0 + 1 ≤ 1; omega

theorem off13_eq (v4 : BitVec 32) (k : Fin (k1_t4_loop v4).trips) (w : BitVec 32) : k1_off13 v4 k w = ![(selRow v4 k.val 6 w).toNat, 0] := rfl
theorem off21_eq (v4 : BitVec 32) (k : Fin (k1_t4_loop v4).trips) (w : BitVec 32) : k1_off21 v4 k w = ![(selRow v4 k.val 6 w).toNat, 0] := rfl
theorem chk11_holds (v4 : BitVec 32) (h4 : v4.toNat ≤ 2048) (k : Fin (k1_t4_loop v4).trips) (w : BitVec 32)
    (hw : 8 * k.val + 6 < v4.toNat → w.toNat < 2048) : k1_chk11 v4 k w := by
  have hk : k.val < 128 := Nat.lt_of_lt_of_le k.isLt (t4_trips_le v4 h4)
  have hl := selRow_lt v4 h4 k.val 6 hk (by decide) w hw
  refine ⟨fun a => ?_, fun a => ?_⟩
  · rw [off13_eq]; fin_cases a
    · show (selRow v4 k.val 6 w).toNat + 1 ≤ 2048; omega
    · show 0 + 32 ≤ 32; omega
  · rw [off21_eq]; fin_cases a
    · show (selRow v4 k.val 6 w).toNat + 1 ≤ 2048; omega
    · show 0 + 1 ≤ 1; omega

theorem off14_eq (v4 : BitVec 32) (k : Fin (k1_t4_loop v4).trips) (w : BitVec 32) : k1_off14 v4 k w = ![(selRow v4 k.val 7 w).toNat, 0] := rfl
theorem off22_eq (v4 : BitVec 32) (k : Fin (k1_t4_loop v4).trips) (w : BitVec 32) : k1_off22 v4 k w = ![(selRow v4 k.val 7 w).toNat, 0] := rfl
theorem chk12_holds (v4 : BitVec 32) (h4 : v4.toNat ≤ 2048) (k : Fin (k1_t4_loop v4).trips) (w : BitVec 32)
    (hw : 8 * k.val + 7 < v4.toNat → w.toNat < 2048) : k1_chk12 v4 k w := by
  have hk : k.val < 128 := Nat.lt_of_lt_of_le k.isLt (t4_trips_le v4 h4)
  have hl := selRow_lt v4 h4 k.val 7 hk (by decide) w hw
  refine ⟨fun a => ?_, fun a => ?_⟩
  · rw [off14_eq]; fin_cases a
    · show (selRow v4 k.val 7 w).toNat + 1 ≤ 2048; omega
    · show 0 + 32 ≤ 32; omega
  · rw [off22_eq]; fin_cases a
    · show (selRow v4 k.val 7 w).toNat + 1 ≤ 2048; omega
    · show 0 + 1 ≤ 1; omega

end Cert.KernelIdeal.Own

end
-- ==== Proof.Ideal.PatchLoops.lean ====
/- The second kernel's loops: what the flag scan leaves in its table of rows. -/
module

public import proofs.«01_k».proof.Proof.Ideal.PatchWords
public import Idealize.ShloMosaic.Lib.WritesUnit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scan of the flags -/

/-- One step of the scan: the table keeps listing rows below the count, whatever the flag. -/
theorem ids_step (v : View sig .tc .smem S1024 .i32) (g : v.ty.Contents (Elt F)) (a r w : BitVec 32) (n : ℕ) (hn : n < 2048)
    (ha : a.toNat ≤ n) (hw : w.toNat < 2048) (hids : IdsOk (v.read (Elt F) g) a.toNat)
    (inb : k1_cond1 a r = 1#1 → ∀ x, k1_off3 a x + S1.size x ≤ S1024.size x) :
    (Scalar.addi a (Scalar.select (Scalar.cmpi .ne r 0#32) 1#32 0#32)).toNat ≤ n + 1
      ∧ IdsOk (v.read (Elt F) (if hc : k1_cond1 a r = 1#1 then v.writes (Elt F) g [⟨Rect.unit (s := S1024) (k1_off3 a) S1.size (inb hc), fun _ => w⟩] else g))
          (Scalar.addi a (Scalar.select (Scalar.cmpi .ne r 0#32) 1#32 0#32)).toNat := by
  by_cases hr : r = 0#32
  · have e : Scalar.addi a (Scalar.select (Scalar.cmpi .ne r 0#32) 1#32 0#32) = a := by
      rw [ne_word, if_pos hr]; show a + 0#32 = a; simp
    have hc : ¬ k1_cond1 a r = 1#1 := by
      subst hr; unfold k1_cond1; dsimp only; rw [ne_word 0#32, if_pos rfl]
      have : ∀ b : BitVec 1, ¬ Scalar.cmpi .ne (Scalar.extui (Scalar.andi 0#1 b) : BitVec 32) 0#32 = 1#1 := by decide
      exact this _
    rw [e, dif_neg hc]; exact ⟨by omega, hids⟩
  · have e : (Scalar.addi a (Scalar.select (Scalar.cmpi .ne r 0#32) 1#32 0#32)).toNat = a.toNat + 1 := by
      rw [ne_word, if_neg hr]; show (a + 1#32).toNat = _; rw [BitVec.toNat_add]; simp only [BitVec.toNat_ofNat]; omega
    rw [e]; refine ⟨by omega, fun j hj => ?_⟩
    by_cases hc : k1_cond1 a r = 1#1
    · rw [dif_pos hc, View.read_writes_cons_unit v g (inb hc) (fun _ => w) [] j (show k1_off3 a = ![a.toNat] from rfl)]
      split
      · exact hw
      · rename_i hne
        refine hids j ?_
        by_contra hge
        refine hne fun x => ?_
        fin_cases x
        show a.toNat ≤ (j 0).val ∧ (j 0).val < a.toNat + 1
        omega
    · rw [dif_neg hc]
      refine hids j ?_
      have h1024 : ¬ a.toNat < 1024 := fun hlt => hc (by
        have hs : Scalar.cmpi .slt a 1024#32 = 1#1 := (slt_iff a 1024#32 (by omega) (by decide)).mpr hlt
        unfold k1_cond1; dsimp only; rw [ne_word r, if_neg hr, hs]; decide)
      have := (j 0).isLt
      have h2 : (j 0).val < 1024 := this
      omega

section Scan

variable (c : Dev nD) (i : grid1.Coords) (arg1 : Memref sig .tc .smem S256 .i32) (harg1 : arg1.IsWhole) (arg2 : Memref sig .tc .smem S2048 .i32) (harg2 : arg2.IsWhole) (arg3 : Memref sig .tc .vmem S2048x32 .f32) (harg3 : arg3.IsWhole) (arg4 : Memref sig .tc .vmem S32x1024 .f32) (harg4 : arg4.IsWhole) (arg5 : Memref sig .tc .vmem S2048x1 .i32) (harg5 : arg5.IsWhole) (arg6 : Memref sig .tc .vmem S2048x1 .i32) (harg6 : arg6.IsWhole) (arg7 : Memref sig .tc .smem S1024 .i32) (harg7 : arg7.IsWhole) (arg8 : Memref sig .tc .smem S1 .i32) (harg8 : arg8.IsWhole)

/-- A memref's points-to at some contents of its buffer. -/
abbrev holds {sp : Space} {S : Shape} {e : EltTy} (m : Memref sig .tc sp S e) (g : Buf (Elt F) (m.view.loc (c : Thread nD τ))) : sProp 𝕄 :=
  m.view.loc (c : Thread nD τ) ↦[m.view.set]{fullShare} g

/-- What the inner scan keeps: the flags, and a table whose entries below the carried count are rows. -/
abbrev scan2 (q : PosShare TreeShare) (fl : Buf (Elt F) (arg2.view.loc (c : Thread nD τ))) (n0 : ℕ) (k : ℕ) (acc : BitVec 32) : sProp 𝕄 :=
  iprop((arg2.view.loc (c : Thread nD τ) ↦[arg2.view.set]{q} fl) ∗ ∃ g : Buf (Elt F) (arg7.view.loc (c : Thread nD τ)), holds c arg7 g ∗ ⌜acc.toNat ≤ n0 + k ∧ IdsOk (arg7.view.read (Elt F) g) acc.toNat⌝)

set_option maxHeartbeats 1000000 in
/-- One trip of the inner scan. -/
theorem scan2_step (q : PosShare TreeShare) (k1_t1 : Fin k1_t1_loop.trips) (v32 : BitVec 32) (k1_hw1 : k1_chk1 k1_t1 v32) (fl : Buf (Elt F) (arg2.view.loc (c : Thread nD τ)))
    (k : Fin (k1_t2_loop v32).trips) (acc : BitVec 32) :
    scan2 c arg2 arg7 q fl (8 * k1_t1.val) k.val acc ⊢ wp frame (wpE (defs₀ (F := F)) Variants.none c none) Set.univ
      (k1_t2_body (F := F) i arg1 harg1 arg2 harg2 arg3 harg3 arg4 harg4 arg5 harg5 arg6 harg6 arg7 harg7 arg8 harg8 k1_t1 (Scf.iv 0#32 1#32 k1_t1) v32 k1_hw1 k acc) (scan2 c arg2 arg7 q fl (8 * k1_t1.val) (k.val + 1)) := by
  have hk1 : k1_t1.val < 256 := Nat.lt_of_lt_of_eq k1_t1.isLt t1_trips
  have hk : k.val < 8 := Nat.lt_of_lt_of_le k.isLt (t2_trips_le v32)
  unfold k1_t2_body
  iintro ⟨H2, %g, H7, %hg⟩
  obtain ⟨hacc, hids⟩ := hg
  sl_exec (disch := first | exact chk2_holds _ _ (by omega))
  sl_step
  isplitl [H2]; · iexact H2
  iexists _; isplitl [H7]; · iexact H7
  ipureintro
  exact ids_step arg7.view g acc _ (rowWord k1_t1.val k.val) (8 * k1_t1.val + k.val) (by omega) hacc
    (by rw [rowWord_toNat _ _ hk1 hk]; omega) hids _

set_option warn.classDefReducibility false in
/-- The inner scan's invariant. -/
@[sl_loop] def loopScan2 (q : PosShare TreeShare) (k1_t1 : Fin k1_t1_loop.trips) (v32 : BitVec 32) (k1_hw1 : k1_chk1 k1_t1 v32) (fl : Buf (Elt F) (arg2.view.loc (c : Thread nD τ))) (init : BitVec 32) :
    LoopInvTy_k1_t2 (F := F) Unit ℕ (UR sig nD τ) ℕ Variants.none c none Set.univ i arg1 harg1 arg2 harg2 arg3 harg3 arg4 harg4 arg5 harg5 arg6 harg6 arg7 harg7 arg8 harg8 k1_t1 (Scf.iv 0#32 1#32 k1_t1) v32 k1_hw1 init where
  inv k acc := scan2 c arg2 arg7 q fl (8 * k1_t1.val) k acc
  step k acc := scan2_step c i arg1 harg1 arg2 harg2 arg3 harg3 arg4 harg4 arg5 harg5 arg6 harg6 arg7 harg7 arg8 harg8 q k1_t1 v32 k1_hw1 fl k acc

set_option warn.classDefReducibility false in
/-- The inner scan's remainder loop has no trip. -/
@[sl_loop] def loopScan3 (k1_t1 : Fin k1_t1_loop.trips) (v32 : BitVec 32) (k1_hw1 : k1_chk1 k1_t1 v32) (v39 init : BitVec 32) :
    LoopInvTy_k1_t3 (F := F) Unit ℕ (UR sig nD τ) ℕ Variants.none c none Set.univ i arg1 harg1 arg2 harg2 arg3 harg3 arg4 harg4 arg5 harg5 arg6 harg6 arg7 harg7 arg8 harg8 k1_t1 (Scf.iv 0#32 1#32 k1_t1) v32 k1_hw1 v39 init where
  inv _ acc := iprop(⌜acc = init⌝)
  step k _ := (Nat.not_lt_zero _ (Nat.lt_of_lt_of_eq k.isLt (t3_trips v32))).elim

/-- What the outer scan keeps. -/
abbrev scan1 (q : PosShare TreeShare) (gs : Buf (Elt F) (arg1.view.loc (c : Thread nD τ))) (fl : Buf (Elt F) (arg2.view.loc (c : Thread nD τ))) (k : ℕ) (acc : BitVec 32) : sProp 𝕄 :=
  iprop((arg1.view.loc (c : Thread nD τ) ↦[arg1.view.set]{q} gs) ∗ (arg2.view.loc (c : Thread nD τ) ↦[arg2.view.set]{q} fl)
    ∗ ∃ g : Buf (Elt F) (arg7.view.loc (c : Thread nD τ)), holds c arg7 g ∗ ⌜acc.toNat ≤ 8 * k ∧ IdsOk (arg7.view.read (Elt F) g) acc.toNat⌝)

set_option maxHeartbeats 1000000 in
/-- One trip of the outer scan. -/
theorem scan1_step (q : PosShare TreeShare) (gs : Buf (Elt F) (arg1.view.loc (c : Thread nD τ))) (fl : Buf (Elt F) (arg2.view.loc (c : Thread nD τ)))
    (k : Fin k1_t1_loop.trips) (acc : BitVec 32) :
    scan1 c arg1 arg2 arg7 q gs fl k.val acc ⊢ wp frame (wpE (defs₀ (F := F)) Variants.none c none) Set.univ
      (k1_t1_body (F := F) i arg1 harg1 arg2 harg2 arg3 harg3 arg4 harg4 arg5 harg5 arg6 harg6 arg7 harg7 arg8 harg8 k acc) (scan1 c arg1 arg2 arg7 q gs fl (k.val + 1)) := by
  unfold k1_t1_body
  iintro ⟨H1, H2, %g, H7, %hg⟩
  sl_exec (disch := first | exact chk1_holds _ _ | (simpa using hg) | assumption)
  isplitl [H1]; · iexact H1
  isplitl [H2]; · iexact H2
  iexists _; isplitl [H7]; · iexact H7
  ipureintro
  obtain ⟨h1, h2⟩ := hL2
  exact ⟨h1.trans (Nat.add_le_add_left (t2_trips_le _) _), h2⟩

set_option warn.classDefReducibility false in
/-- The outer scan's invariant. -/
@[sl_loop] def loopScan1 (q : PosShare TreeShare) (gs : Buf (Elt F) (arg1.view.loc (c : Thread nD τ))) (fl : Buf (Elt F) (arg2.view.loc (c : Thread nD τ))) (init : BitVec 32) :
    LoopInvTy_k1_t1 (F := F) Unit ℕ (UR sig nD τ) ℕ Variants.none c none Set.univ i arg1 harg1 arg2 harg2 arg3 harg3 arg4 harg4 arg5 harg5 arg6 harg6 arg7 harg7 arg8 harg8 init where
  inv k acc := scan1 c arg1 arg2 arg7 q gs fl k acc
  step k acc := scan1_step c i arg1 harg1 arg2 harg2 arg3 harg3 arg4 harg4 arg5 harg5 arg6 harg6 arg7 harg7 arg8 harg8 q gs fl k acc

end Scan

end Cert.KernelIdeal.Own

end
-- ==== Proof.Ideal.PatchGroups.lean ====
/- The second kernel's groups: every row of the output is either the provisional code or the code recomputed for that row. -/
module

public import proofs.«01_k».proof.Proof.Ideal.PatchLoops

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a group computes -/

theorem row_inb (n : Fin 2048) : ∀ a : Fin 2, (![n.val, 0] : Fin 2 → ℕ) a + S1x32.size a ≤ S2048x32.size a := by
  intro a; have := n.isLt
  fin_cases a
  · show n.val + 1 ≤ 2048; omega
  · show 0 + 32 ≤ 32; omega

/-- Row `n` of the latents. -/
def rowAt (z : Vec F S2048x32 .f32) (n : Fin 2048) : Vec F S1x32 .f32 :=
  View.ld z (Rect.unit (s := S2048x32) ![n.val, 0] S1x32.size (row_inb n))

/-- A load of one row at a computed offset reads that row. -/
theorem row_read {m : Memref sig .tc .vmem S2048x32 .f32} (hm : m.IsWhole) (z : Vec F S2048x32 .f32) (n : Fin 2048)
    {off : Fin 2 → ℕ} (inb : ∀ a, off a + S1x32.size a ≤ S2048x32.size a) (h : off = ![n.val, 0]) :
    View.readAt (Elt F) m.view (Rect.unit (s := S2048x32) off S1x32.size inb).toLoadRect (hm.unread z) = rowAt z n := by
  subst h
  exact (View.readAt_eq_ld _ _ _).trans (congrArg (fun Y => View.ld Y _) (hm.read_unread z))

/-- A word of the table read at a computed position. -/
theorem tbl_read (v : View sig .tc .smem S1024 .i32) (g : v.ty.Contents (Elt F)) (n : ℕ) (hids : IdsOk (v.read (Elt F) g) n) (p : ℕ) (hp : p < n)
    {off : Fin 1 → ℕ} (inb : ∀ a, off a + S1.size a ≤ S1024.size a) (h : off = ![p]) (x : S1.Idx) :
    (View.readAt (Elt F) v (Rect.unit (s := S1024) off S1.size inb).toLoadRect g x : BitVec 32).toNat < 2048 := by
  subst h
  refine hids _ ?_
  have hx : (x 0).val = 0 := by have h1 : (x 0).val < 1 := (x 0).isLt; omega
  show p + 1 * (x 0).val < n
  omega

/-- The eight rows of a group, one under the other. -/
def grpRows (z : Vec F S2048x32 .f32) (rows : Fin 8 → Fin 2048) : FVec F S8x32 .f32 :=
  k1_pay10 (rowAt z (rows 0)) (rowAt z (rows 1)) (rowAt z (rows 2)) (rowAt z (rows 3)) (rowAt z (rows 4)) (rowAt z (rows 5)) (rowAt z (rows 6)) (rowAt z (rows 7))

/-- The codes a group computes for its eight rows. -/
def grpIdx (z : Vec F S2048x32 .f32) (et : Vec F S32x1024 .f32) (rows : Fin 8 → Fin 2048) : IVec S8x1 32 :=
  k1_pay19 (k1_pay12 (grpRows z rows) (k1_pay11 et)) (k1_pay13 (grpRows z rows) (k1_pay11 et))

/-- Position `r` of a column of eight. -/
def colIdx (r : Fin 8) : S8x1.Idx := fun a => match a with
  | ⟨0, _⟩ => ⟨r.val, r.isLt⟩
  | ⟨1, _⟩ => ⟨0, Nat.one_pos⟩

/-- Every row of the output is the provisional code or the code a group computed for that row. -/
def Good (z : Vec F S2048x32 .f32) (et : Vec F S32x1024 .f32) (prov : Vec F S2048x1 .i32) (f : Vec F S2048x1 .i32) : Prop :=
  ∀ j : S2048x1.Idx, f j = prov j ∨ ∃ (rows : Fin 8 → Fin 2048) (r : Fin 8), (rows r).val = (j 0).val ∧ f j = grpIdx z et rows (colIdx r)

/-- Storing a group's code at its row keeps the output in order. -/
theorem good_cons (z : Vec F S2048x32 .f32) (et : Vec F S32x1024 .f32) (prov : Vec F S2048x1 .i32) (v : View sig .tc .vmem S2048x1 .i32) (g : v.ty.Contents (Elt F))
    (L : List (View.Piece (Elt F) S2048x1 .i32)) (rows : Fin 8 → Fin 2048) (r : Fin 8)
    {off : Fin 2 → ℕ} (inb : ∀ a, off a + S1x1.size a ≤ S2048x1.size a) (hoff : off = ![(rows r).val, 0]) (w : IVec S1x1 32)
    (hw : ∀ y, w y = grpIdx z et rows (colIdx r)) (h : Good z et prov (v.read (Elt F) (v.writes (Elt F) g L))) :
    Good z et prov (v.read (Elt F) (v.writes (Elt F) g ((⟨Rect.unit (s := S2048x1) off S1x1.size inb, w⟩ : View.Piece (Elt F) S2048x1 .i32) :: L))) := by
  intro j
  rw [View.read_writes_cons_unit v g inb w L j hoff]
  split
  · rename_i hj
    have h0 : (rows r).val ≤ (j 0).val ∧ (j 0).val < (rows r).val + 1 := hj 0
    exact .inr ⟨rows, r, by omega, hw _⟩
  · exact h j

theorem pay20_apply (a : FVec F S8x1024 .f32) (m : FVec F S8 .f32) (y : S1x1.Idx) : k1_pay20 a m y = k1_pay19 a m (colIdx 0) := by
  refine congrArg (k1_pay19 a m) (funext fun x => Fin.ext ?_)
  have h0 : (y 0).val < 1 := (y 0).isLt
  have h1 : (y 1).val < 1 := (y 1).isLt
  fin_cases x
  · show 0 + (y 0).val = 0; omega
  · show 0 + (y 1).val = 0; omega
theorem pay21_apply (a : FVec F S8x1024 .f32) (m : FVec F S8 .f32) (y : S1x1.Idx) : k1_pay21 a m y = k1_pay19 a m (colIdx 1) := by
  refine congrArg (k1_pay19 a m) (funext fun x => Fin.ext ?_)
  have h0 : (y 0).val < 1 := (y 0).isLt
  have h1 : (y 1).val < 1 := (y 1).isLt
  fin_cases x
  · show 1 + (y 0).val = 1; omega
  · show 0 + (y 1).val = 0; omega
theorem pay22_apply (a : FVec F S8x1024 .f32) (m : FVec F S8 .f32) (y : S1x1.Idx) : k1_pay22 a m y = k1_pay19 a m (colIdx 2) := by
  refine congrArg (k1_pay19 a m) (funext fun x => Fin.ext ?_)
  have h0 : (y 0).val < 1 := (y 0).isLt
  have h1 : (y 1).val < 1 := (y 1).isLt
  fin_cases x
  · show 2 + (y 0).val = 2; omega
  · show 0 + (y 1).val = 0; omega
theorem pay23_apply (a : FVec F S8x1024 .f32) (m : FVec F S8 .f32) (y : S1x1.Idx) : k1_pay23 a m y = k1_pay19 a m (colIdx 3) := by
  refine congrArg (k1_pay19 a m) (funext fun x => Fin.ext ?_)
  have h0 : (y 0).val < 1 := (y 0).isLt
  have h1 : (y 1).val < 1 := (y 1).isLt
  fin_cases x
  · show 3 + (y 0).val = 3; omega
  · show 0 + (y 1).val = 0; omega
theorem pay24_apply (a : FVec F S8x1024 .f32) (m : FVec F S8 .f32) (y : S1x1.Idx) : k1_pay24 a m y = k1_pay19 a m (colIdx 4) := by
  refine congrArg (k1_pay19 a m) (funext fun x => Fin.ext ?_)
  have h0 : (y 0).val < 1 := (y 0).isLt
  have h1 : (y 1).val < 1 := (y 1).isLt
  fin_cases x
  · show 4 + (y 0).val = 4; omega
  · show 0 + (y 1).val = 0; omega
theorem pay25_apply (a : FVec F S8x1024 .f32) (m : FVec F S8 .f32) (y : S1x1.Idx) : k1_pay25 a m y = k1_pay19 a m (colIdx 5) := by
  refine congrArg (k1_pay19 a m) (funext fun x => Fin.ext ?_)
  have h0 : (y 0).val < 1 := (y 0).isLt
  have h1 : (y 1).val < 1 := (y 1).isLt
  fin_cases x
  · show 5 + (y 0).val = 5; omega
  · show 0 + (y 1).val = 0; omega
theorem pay26_apply (a : FVec F S8x1024 .f32) (m : FVec F S8 .f32) (y : S1x1.Idx) : k1_pay26 a m y = k1_pay19 a m (colIdx 6) := by
  refine congrArg (k1_pay19 a m) (funext fun x => Fin.ext ?_)
  have h0 : (y 0).val < 1 := (y 0).isLt
  have h1 : (y 1).val < 1 := (y 1).isLt
  fin_cases x
  · show 6 + (y 0).val = 6; omega
  · show 0 + (y 1).val = 0; omega
theorem pay27_apply (a : FVec F S8x1024 .f32) (m : FVec F S8 .f32) (y : S1x1.Idx) : k1_pay27 a m y = k1_pay19 a m (colIdx 7) := by
  refine congrArg (k1_pay19 a m) (funext fun x => Fin.ext ?_)
  have h0 : (y 0).val < 1 := (y 0).isLt
  have h1 : (y 1).val < 1 := (y 1).isLt
  fin_cases x
  · show 7 + (y 0).val = 7; omega
  · show 0 + (y 1).val = 0; omega

theorem grpRows_of (z : Vec F S2048x32 .f32) (rows : Fin 8 → Fin 2048) {R0 R1 R2 R3 R4 R5 R6 R7 : Vec F S1x32 .f32}
    (h0 : R0 = rowAt z (rows 0)) (h1 : R1 = rowAt z (rows 1)) (h2 : R2 = rowAt z (rows 2)) (h3 : R3 = rowAt z (rows 3))
    (h4 : R4 = rowAt z (rows 4)) (h5 : R5 = rowAt z (rows 5)) (h6 : R6 = rowAt z (rows 6)) (h7 : R7 = rowAt z (rows 7)) :
    k1_pay10 R0 R1 R2 R3 R4 R5 R6 R7 = grpRows z rows := by
  subst h0 h1 h2 h3 h4 h5 h6 h7; rfl

/-- After the eight stores of a group the output is still in order. -/
theorem grp_good (z : Vec F S2048x32 .f32) (et : Vec F S32x1024 .f32) (prov : Vec F S2048x1 .i32) (v : View sig .tc .vmem S2048x1 .i32) (g : v.ty.Contents (Elt F))
    (v4 : BitVec 32) (k : Fin (k1_t4_loop v4).trips) (rows : Fin 8 → Fin 2048)
    (a : FVec F S8x1024 .f32) (m : FVec F S8 .f32) (ha : a = k1_pay12 (grpRows z rows) (k1_pay11 et)) (hm : m = k1_pay13 (grpRows z rows) (k1_pay11 et))
    (w0 w1 w2 w3 w4 w5 w6 w7 : BitVec 32)
    (e0 : (selRow v4 k.val 0 w0).toNat = (rows 0).val) (inb0 : ∀ x, k1_off15 v4 k w0 x + S1x1.size x ≤ S2048x1.size x)
    (e1 : (selRow v4 k.val 1 w1).toNat = (rows 1).val) (inb1 : ∀ x, k1_off16 v4 k w1 x + S1x1.size x ≤ S2048x1.size x)
    (e2 : (selRow v4 k.val 2 w2).toNat = (rows 2).val) (inb2 : ∀ x, k1_off17 v4 k w2 x + S1x1.size x ≤ S2048x1.size x)
    (e3 : (selRow v4 k.val 3 w3).toNat = (rows 3).val) (inb3 : ∀ x, k1_off18 v4 k w3 x + S1x1.size x ≤ S2048x1.size x)
    (e4 : (selRow v4 k.val 4 w4).toNat = (rows 4).val) (inb4 : ∀ x, k1_off19 v4 k w4 x + S1x1.size x ≤ S2048x1.size x)
    (e5 : (selRow v4 k.val 5 w5).toNat = (rows 5).val) (inb5 : ∀ x, k1_off20 v4 k w5 x + S1x1.size x ≤ S2048x1.size x)
    (e6 : (selRow v4 k.val 6 w6).toNat = (rows 6).val) (inb6 : ∀ x, k1_off21 v4 k w6 x + S1x1.size x ≤ S2048x1.size x)
    (e7 : (selRow v4 k.val 7 w7).toNat = (rows 7).val) (inb7 : ∀ x, k1_off22 v4 k w7 x + S1x1.size x ≤ S2048x1.size x)
    (h : Good z et prov (v.read (Elt F) g)) :
    Good z et prov (v.read (Elt F) (v.writes (Elt F) g [(⟨Rect.unit (s := S2048x1) (k1_off22 v4 k w7) S1x1.size inb7, k1_pay27 a m⟩ : View.Piece (Elt F) S2048x1 .i32),
      (⟨Rect.unit (s := S2048x1) (k1_off21 v4 k w6) S1x1.size inb6, k1_pay26 a m⟩ : View.Piece (Elt F) S2048x1 .i32),
      (⟨Rect.unit (s := S2048x1) (k1_off20 v4 k w5) S1x1.size inb5, k1_pay25 a m⟩ : View.Piece (Elt F) S2048x1 .i32),
      (⟨Rect.unit (s := S2048x1) (k1_off19 v4 k w4) S1x1.size inb4, k1_pay24 a m⟩ : View.Piece (Elt F) S2048x1 .i32),
      (⟨Rect.unit (s := S2048x1) (k1_off18 v4 k w3) S1x1.size inb3, k1_pay23 a m⟩ : View.Piece (Elt F) S2048x1 .i32),
      (⟨Rect.unit (s := S2048x1) (k1_off17 v4 k w2) S1x1.size inb2, k1_pay22 a m⟩ : View.Piece (Elt F) S2048x1 .i32),
      (⟨Rect.unit (s := S2048x1) (k1_off16 v4 k w1) S1x1.size inb1, k1_pay21 a m⟩ : View.Piece (Elt F) S2048x1 .i32),
      (⟨Rect.unit (s := S2048x1) (k1_off15 v4 k w0) S1x1.size inb0, k1_pay20 a m⟩ : View.Piece (Elt F) S2048x1 .i32)])) := by
  subst ha hm
  refine good_cons z et prov v g _ rows 7 inb7 ((off22_eq v4 k w7).trans (by rw [e7])) _ (fun y => pay27_apply _ _ y) ?_
  refine good_cons z et prov v g _ rows 6 inb6 ((off21_eq v4 k w6).trans (by rw [e6])) _ (fun y => pay26_apply _ _ y) ?_
  refine good_cons z et prov v g _ rows 5 inb5 ((off20_eq v4 k w5).trans (by rw [e5])) _ (fun y => pay25_apply _ _ y) ?_
  refine good_cons z et prov v g _ rows 4 inb4 ((off19_eq v4 k w4).trans (by rw [e4])) _ (fun y => pay24_apply _ _ y) ?_
  refine good_cons z et prov v g _ rows 3 inb3 ((off18_eq v4 k w3).trans (by rw [e3])) _ (fun y => pay23_apply _ _ y) ?_
  refine good_cons z et prov v g _ rows 2 inb2 ((off17_eq v4 k w2).trans (by rw [e2])) _ (fun y => pay22_apply _ _ y) ?_
  refine good_cons z et prov v g _ rows 1 inb1 ((off16_eq v4 k w1).trans (by rw [e1])) _ (fun y => pay21_apply _ _ y) ?_
  refine good_cons z et prov v g _ rows 0 inb0 ((off15_eq v4 k w0).trans (by rw [e0])) _ (fun y => pay20_apply _ _ y) ?_
  exact h

section Group

variable (c : Dev nD) (i : grid1.Coords) (arg1 : Memref sig .tc .smem S256 .i32) (harg1 : arg1.IsWhole) (arg2 : Memref sig .tc .smem S2048 .i32) (harg2 : arg2.IsWhole) (arg3 : Memref sig .tc .vmem S2048x32 .f32) (harg3 : arg3.IsWhole) (arg4 : Memref sig .tc .vmem S32x1024 .f32) (harg4 : arg4.IsWhole) (arg5 : Memref sig .tc .vmem S2048x1 .i32) (harg5 : arg5.IsWhole) (arg6 : Memref sig .tc .vmem S2048x1 .i32) (harg6 : arg6.IsWhole) (arg7 : Memref sig .tc .smem S1024 .i32) (harg7 : arg7.IsWhole) (arg8 : Memref sig .tc .smem S1 .i32) (harg8 : arg8.IsWhole)

/-- What the groups' loop keeps. -/
abbrev grp4 (z : Vec F S2048x32 .f32) (et : Vec F S32x1024 .f32) (prov : Vec F S2048x1 .i32) (v4 : BitVec 32) (g7 : Buf (Elt F) (arg7.view.loc (c : Thread nD τ))) : sProp 𝕄 :=
  iprop(holds c arg3 (harg3.unread z) ∗ holds c arg4 (harg4.unread et) ∗ holds c arg5 (harg5.unread prov) ∗ holds c arg7 g7 ∗ ⌜v4.toNat ≤ 2048 ∧ IdsOk (arg7.view.read (Elt F) g7) v4.toNat⌝
    ∗ ∃ g : Buf (Elt F) (arg6.view.loc (c : Thread nD τ)), holds c arg6 g ∗ ⌜Good z et prov (arg6.view.read (Elt F) g)⌝)

set_option maxHeartbeats 4000000 in
/-- One group. -/
theorem grp4_step (z : Vec F S2048x32 .f32) (et : Vec F S32x1024 .f32) (prov : Vec F S2048x1 .i32) (v4 : BitVec 32) (k1_hw4 : k1_chk4 v4)
    (g7 : Buf (Elt F) (arg7.view.loc (c : Thread nD τ))) (k : Fin (k1_t4_loop v4).trips) :
    grp4 c arg3 harg3 arg4 harg4 arg5 harg5 arg6 arg7 z et prov v4 g7 ⊢ wp frame (wpE (defs₀ (F := F)) Variants.none c none) Set.univ
      (k1_t4_body (F := F) i arg1 harg1 arg2 harg2 arg3 harg3 arg4 harg4 arg5 harg5 arg6 harg6 arg7 harg7 arg8 harg8 v4 k1_hw4 (Scalar.minsi v4 1024#32) k ()) (fun _ => grp4 c arg3 harg3 arg4 harg4 arg5 harg5 arg6 arg7 z et prov v4 g7) := by
  unfold k1_t4_body
  simp only [k1_part1_eq_skeleton, k1_part2_eq_skeleton, k1_part3_eq_skeleton]
  iintro ⟨H3, H4, H5, H7, %h4, %g, H6, %hg⟩
  obtain ⟨hv4, hids⟩ := h4
  have hk : k.val < 128 := Nat.lt_of_lt_of_le k.isLt (t4_trips_le v4 hv4)
  have ck0 : ∀ x inb, k1_chk5 v4 k (View.readAt (Elt F) arg7.view (Rect.unit (s := S1024) (k1_off6 v4 k 0#32) S1.size inb).toLoadRect g7 x) := fun x inb =>
    chk5_holds v4 hv4 k _ fun hlt => tbl_read arg7.view g7 v4.toNat hids (posWord k.val 0).toNat (by rw [posWord_toNat _ _ hk (by decide : 0 < 8)]; exact hlt) inb (off6_eq v4 k 0) x
  have ck1 : ∀ x inb, k1_chk6 v4 k (View.readAt (Elt F) arg7.view (Rect.unit (s := S1024) (k1_off6 v4 k 1#32) S1.size inb).toLoadRect g7 x) := fun x inb =>
    chk6_holds v4 hv4 k _ fun hlt => tbl_read arg7.view g7 v4.toNat hids (posWord k.val 1).toNat (by rw [posWord_toNat _ _ hk (by decide : 1 < 8)]; exact hlt) inb (off6_eq v4 k 1) x
  have ck2 : ∀ x inb, k1_chk7 v4 k (View.readAt (Elt F) arg7.view (Rect.unit (s := S1024) (k1_off6 v4 k 2#32) S1.size inb).toLoadRect g7 x) := fun x inb =>
    chk7_holds v4 hv4 k _ fun hlt => tbl_read arg7.view g7 v4.toNat hids (posWord k.val 2).toNat (by rw [posWord_toNat _ _ hk (by decide : 2 < 8)]; exact hlt) inb (off6_eq v4 k 2) x
  have ck3 : ∀ x inb, k1_chk8 v4 k (View.readAt (Elt F) arg7.view (Rect.unit (s := S1024) (k1_off6 v4 k 3#32) S1.size inb).toLoadRect g7 x) := fun x inb =>
    chk8_holds v4 hv4 k _ fun hlt => tbl_read arg7.view g7 v4.toNat hids (posWord k.val 3).toNat (by rw [posWord_toNat _ _ hk (by decide : 3 < 8)]; exact hlt) inb (off6_eq v4 k 3) x
  have ck4 : ∀ x inb, k1_chk9 v4 k (View.readAt (Elt F) arg7.view (Rect.unit (s := S1024) (k1_off6 v4 k 4#32) S1.size inb).toLoadRect g7 x) := fun x inb =>
    chk9_holds v4 hv4 k _ fun hlt => tbl_read arg7.view g7 v4.toNat hids (posWord k.val 4).toNat (by rw [posWord_toNat _ _ hk (by decide : 4 < 8)]; exact hlt) inb (off6_eq v4 k 4) x
  have ck5 : ∀ x inb, k1_chk10 v4 k (View.readAt (Elt F) arg7.view (Rect.unit (s := S1024) (k1_off6 v4 k 5#32) S1.size inb).toLoadRect g7 x) := fun x inb =>
    chk10_holds v4 hv4 k _ fun hlt => tbl_read arg7.view g7 v4.toNat hids (posWord k.val 5).toNat (by rw [posWord_toNat _ _ hk (by decide : 5 < 8)]; exact hlt) inb (off6_eq v4 k 5) x
  have ck6 : ∀ x inb, k1_chk11 v4 k (View.readAt (Elt F) arg7.view (Rect.unit (s := S1024) (k1_off6 v4 k 6#32) S1.size inb).toLoadRect g7 x) := fun x inb =>
    chk11_holds v4 hv4 k _ fun hlt => tbl_read arg7.view g7 v4.toNat hids (posWord k.val 6).toNat (by rw [posWord_toNat _ _ hk (by decide : 6 < 8)]; exact hlt) inb (off6_eq v4 k 6) x
  have ck7 : ∀ x inb, k1_chk12 v4 k (View.readAt (Elt F) arg7.view (Rect.unit (s := S1024) (k1_off6 v4 k 7#32) S1.size inb).toLoadRect g7 x) := fun x inb =>
    chk12_holds v4 hv4 k _ fun hlt => tbl_read arg7.view g7 v4.toNat hids (posWord k.val 7).toNat (by rw [posWord_toNat _ _ hk (by decide : 7 < 8)]; exact hlt) inb (off6_eq v4 k 7) x
  have wd0 : ∀ x inb, (selRow v4 k.val 0 (View.readAt (Elt F) arg7.view (Rect.unit (s := S1024) (k1_off6 v4 k 0#32) S1.size inb).toLoadRect g7 x)).toNat < 2048 := fun x inb =>
    selRow_lt v4 hv4 k.val 0 hk (by decide) _ fun hlt => tbl_read arg7.view g7 v4.toNat hids (posWord k.val 0).toNat (by rw [posWord_toNat _ _ hk (by decide : 0 < 8)]; exact hlt) inb (off6_eq v4 k 0) x
  have wd1 : ∀ x inb, (selRow v4 k.val 1 (View.readAt (Elt F) arg7.view (Rect.unit (s := S1024) (k1_off6 v4 k 1#32) S1.size inb).toLoadRect g7 x)).toNat < 2048 := fun x inb =>
    selRow_lt v4 hv4 k.val 1 hk (by decide) _ fun hlt => tbl_read arg7.view g7 v4.toNat hids (posWord k.val 1).toNat (by rw [posWord_toNat _ _ hk (by decide : 1 < 8)]; exact hlt) inb (off6_eq v4 k 1) x
  have wd2 : ∀ x inb, (selRow v4 k.val 2 (View.readAt (Elt F) arg7.view (Rect.unit (s := S1024) (k1_off6 v4 k 2#32) S1.size inb).toLoadRect g7 x)).toNat < 2048 := fun x inb =>
    selRow_lt v4 hv4 k.val 2 hk (by decide) _ fun hlt => tbl_read arg7.view g7 v4.toNat hids (posWord k.val 2).toNat (by rw [posWord_toNat _ _ hk (by decide : 2 < 8)]; exact hlt) inb (off6_eq v4 k 2) x
  have wd3 : ∀ x inb, (selRow v4 k.val 3 (View.readAt (Elt F) arg7.view (Rect.unit (s := S1024) (k1_off6 v4 k 3#32) S1.size inb).toLoadRect g7 x)).toNat < 2048 := fun x inb =>
    selRow_lt v4 hv4 k.val 3 hk (by decide) _ fun hlt => tbl_read arg7.view g7 v4.toNat hids (posWord k.val 3).toNat (by rw [posWord_toNat _ _ hk (by decide : 3 < 8)]; exact hlt) inb (off6_eq v4 k 3) x
  have wd4 : ∀ x inb, (selRow v4 k.val 4 (View.readAt (Elt F) arg7.view (Rect.unit (s := S1024) (k1_off6 v4 k 4#32) S1.size inb).toLoadRect g7 x)).toNat < 2048 := fun x inb =>
    selRow_lt v4 hv4 k.val 4 hk (by decide) _ fun hlt => tbl_read arg7.view g7 v4.toNat hids (posWord k.val 4).toNat (by rw [posWord_toNat _ _ hk (by decide : 4 < 8)]; exact hlt) inb (off6_eq v4 k 4) x
  have wd5 : ∀ x inb, (selRow v4 k.val 5 (View.readAt (Elt F) arg7.view (Rect.unit (s := S1024) (k1_off6 v4 k 5#32) S1.size inb).toLoadRect g7 x)).toNat < 2048 := fun x inb =>
    selRow_lt v4 hv4 k.val 5 hk (by decide) _ fun hlt => tbl_read arg7.view g7 v4.toNat hids (posWord k.val 5).toNat (by rw [posWord_toNat _ _ hk (by decide : 5 < 8)]; exact hlt) inb (off6_eq v4 k 5) x
  have wd6 : ∀ x inb, (selRow v4 k.val 6 (View.readAt (Elt F) arg7.view (Rect.unit (s := S1024) (k1_off6 v4 k 6#32) S1.size inb).toLoadRect g7 x)).toNat < 2048 := fun x inb =>
    selRow_lt v4 hv4 k.val 6 hk (by decide) _ fun hlt => tbl_read arg7.view g7 v4.toNat hids (posWord k.val 6).toNat (by rw [posWord_toNat _ _ hk (by decide : 6 < 8)]; exact hlt) inb (off6_eq v4 k 6) x
  have wd7 : ∀ x inb, (selRow v4 k.val 7 (View.readAt (Elt F) arg7.view (Rect.unit (s := S1024) (k1_off6 v4 k 7#32) S1.size inb).toLoadRect g7 x)).toNat < 2048 := fun x inb =>
    selRow_lt v4 hv4 k.val 7 hk (by decide) _ fun hlt => tbl_read arg7.view g7 v4.toNat hids (posWord k.val 7).toNat (by rw [posWord_toNat _ _ hk (by decide : 7 < 8)]; exact hlt) inb (off6_eq v4 k 7) x
  sl_exec (disch := first | exact ck0 _ _ | exact ck1 _ _ | exact ck2 _ _ | exact ck3 _ _ | exact ck4 _ _ | exact ck5 _ _ | exact ck6 _ _ | exact ck7 _ _)
  sl_step
  isplitl [H3]; · iexact H3
  isplitl [H4]; · iexact H4
  isplitl [H5]; · iexact H5
  isplitl [H7]; · iexact H7
  isplitr
  · ipureintro; exact ⟨hv4, hids⟩
  iexists _; isplitl [H6]; · iexact H6
  ipureintro
  refine grp_good z et prov _ g v4 k ![⟨_, wd0 _ _⟩, ⟨_, wd1 _ _⟩, ⟨_, wd2 _ _⟩, ⟨_, wd3 _ _⟩, ⟨_, wd4 _ _⟩, ⟨_, wd5 _ _⟩, ⟨_, wd6 _ _⟩, ⟨_, wd7 _ _⟩] _ _ ?_ ?_ _ _ _ _ _ _ _ _ rfl _ rfl _ rfl _ rfl _ rfl _ rfl _ rfl _ rfl _ hg
  · delta grp4_step.sl.r grp4_step.sl.r_1 grp4_step.sl.r_2 grp4_step.sl.r_3 grp4_step.sl.r_4 grp4_step.sl.r_5 grp4_step.sl.r_6 grp4_step.sl.r_7 grp4_step.sl.r_8 grp4_step.sl.r_9 grp4_step.sl.r_10 grp4_step.sl.r_11
    exact congrArg₂ k1_pay12 (grpRows_of z _ (row_read harg3 z _ _ (off7_eq v4 k _)) (row_read harg3 z _ _ (off8_eq v4 k _)) (row_read harg3 z _ _ (off9_eq v4 k _)) (row_read harg3 z _ _ (off10_eq v4 k _)) (row_read harg3 z _ _ (off11_eq v4 k _)) (row_read harg3 z _ _ (off12_eq v4 k _)) (row_read harg3 z _ _ (off13_eq v4 k _)) (row_read harg3 z _ _ (off14_eq v4 k _))) (congrArg k1_pay11 (readAt_whole harg4 et _ (by decide)))
  · delta grp4_step.sl.r grp4_step.sl.r_1 grp4_step.sl.r_2 grp4_step.sl.r_3 grp4_step.sl.r_4 grp4_step.sl.r_5 grp4_step.sl.r_6 grp4_step.sl.r_7 grp4_step.sl.r_8 grp4_step.sl.r_9 grp4_step.sl.r_10 grp4_step.sl.r_11
    exact congrArg₂ k1_pay13 (grpRows_of z _ (row_read harg3 z _ _ (off7_eq v4 k _)) (row_read harg3 z _ _ (off8_eq v4 k _)) (row_read harg3 z _ _ (off9_eq v4 k _)) (row_read harg3 z _ _ (off10_eq v4 k _)) (row_read harg3 z _ _ (off11_eq v4 k _)) (row_read harg3 z _ _ (off12_eq v4 k _)) (row_read harg3 z _ _ (off13_eq v4 k _)) (row_read harg3 z _ _ (off14_eq v4 k _))) (congrArg k1_pay11 (readAt_whole harg4 et _ (by decide)))

end Group

end Cert.KernelIdeal.Own

end
-- ==== Proof.Ideal.PatchBody.lean ====
/- The second kernel's body: what it asks of its buffers and what it leaves in them. -/
module

public import proofs.«01_k».proof.Proof.Ideal.PatchGroups

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid1.Coords) (arg1 : Memref sig .tc .smem S256 .i32) (harg1 : arg1.IsWhole) (arg2 : Memref sig .tc .smem S2048 .i32) (harg2 : arg2.IsWhole) (arg3 : Memref sig .tc .vmem S2048x32 .f32) (harg3 : arg3.IsWhole) (arg4 : Memref sig .tc .vmem S32x1024 .f32) (harg4 : arg4.IsWhole) (arg5 : Memref sig .tc .vmem S2048x1 .i32) (harg5 : arg5.IsWhole) (arg6 : Memref sig .tc .vmem S2048x1 .i32) (harg6 : arg6.IsWhole) (arg7 : Memref sig .tc .smem S1024 .i32) (harg7 : arg7.IsWhole) (arg8 : Memref sig .tc .smem S1 .i32) (harg8 : arg8.IsWhole)

set_option warn.classDefReducibility false in
/-- The groups' invariant. -/
@[sl_loop] def loopGrp (z : Vec F S2048x32 .f32) (et : Vec F S32x1024 .f32) (prov : Vec F S2048x1 .i32) (v4 : BitVec 32) (k1_hw4 : k1_chk4 v4)
    (g7 : Buf (Elt F) (arg7.view.loc (c : Thread nD τ))) :
    LoopInvTy_k1_t4 (F := F) Unit ℕ (UR sig nD τ) ℕ Variants.none c none Set.univ i arg1 harg1 arg2 harg2 arg3 harg3 arg4 harg4 arg5 harg5 arg6 harg6 arg7 harg7 arg8 harg8 v4 k1_hw4 (Scalar.minsi v4 1024#32) where
  inv _ _ := grp4 c arg3 harg3 arg4 harg4 arg5 harg5 arg6 arg7 z et prov v4 g7
  step k _ := grp4_step c i arg1 harg1 arg2 harg2 arg3 harg3 arg4 harg4 arg5 harg5 arg6 harg6 arg7 harg7 arg8 harg8 z et prov v4 k1_hw4 g7 k

set_option warn.classDefReducibility false in
/-- The groups' remainder loop has no trip. -/
@[sl_loop] def loopRest (v4 : BitVec 32) (k1_hw4 : k1_chk4 v4) (v5 v30 : BitVec 32) :
    LoopInvTy_k1_t5 (F := F) Unit ℕ (UR sig nD τ) ℕ Variants.none c none Set.univ i arg1 harg1 arg2 harg2 arg3 harg3 arg4 harg4 arg5 harg5 arg6 harg6 arg7 harg7 arg8 harg8 v4 k1_hw4 v5 v30 where
  inv _ _ := iprop(⌜v4.toNat ≤ 2048⌝)
  step k _ := by
    iintro %h
    exact (Nat.not_lt_zero _ (Nat.lt_of_lt_of_eq k.isLt (t5_trips v4 h))).elim

theorem scan_le {n : ℕ} {P : Prop} (h : n ≤ 8 * k1_t1_loop.trips ∧ P) : n ≤ 2048 := h.1.trans (by rw [t1_trips])

theorem ids_none (ids : S1024.Idx → BitVec 32) (n : ℕ) (h : n = 0) : IdsOk ids n := fun _ hj => absurd hj (by omega)

theorem good_start {m : Memref sig .tc .vmem S2048x1 .i32} (z : Vec F S2048x32 .f32) (et : Vec F S32x1024 .f32) {m5 : Memref sig .tc .vmem S2048x1 .i32} (h5 : m5.IsWhole) (prov : Vec F S2048x1 .i32)
    (g : m.view.ty.Contents (Elt F)) :
    Good z et prov (m.view.read (Elt F) (m.view.writes (Elt F) g [(⟨Rect.unit (s := S2048x1) ![0, 0] S2048x1.size inb_S2048x1_S2048x1_0_0,
      k1_pay18 (View.readAt (Elt F) m5.view (Rect.unit (s := S2048x1) ![0, 0] S2048x1.size inb_S2048x1_S2048x1_0_0).toLoadRect (h5.unread prov))⟩ : View.Piece (Elt F) S2048x1 .i32)])) := by
  rw [readAt_whole h5 prov _ (by decide), read_stored m.view g [] _ _ (by decide)]
  intro j
  refine .inl ?_
  unfold k1_pay18
  exact congrFun (shapeCast_self (α := BitVec 32) _ _) j

set_option maxHeartbeats 4000000 in
/-- The second kernel's body leaves its inputs as they were, and in its output every row holds the provisional code or one computed for that row. -/
theorem patch_body (q1 : PosShare TreeShare) (gs : Buf (Elt F) (arg1.view.loc (c : Thread nD τ))) (fl : Buf (Elt F) (arg2.view.loc (c : Thread nD τ)))
    (z : Vec F S2048x32 .f32) (et : Vec F S32x1024 .f32) (prov : Vec F S2048x1 .i32) (K : PUnit → sProp 𝕄) :
    iprop((arg1.view.loc (c : Thread nD τ) ↦[arg1.view.set]{q1} gs) ∗ (arg2.view.loc (c : Thread nD τ) ↦[arg2.view.set]{q1} fl)
      ∗ holds c arg3 (harg3.unread z) ∗ holds c arg4 (harg4.unread et) ∗ holds c arg5 (harg5.unread prov)
      ∗ (∃ g : Buf (Elt F) (arg6.view.loc (c : Thread nD τ)), holds c arg6 g)
      ∗ (∃ g : Buf (Elt F) (arg7.view.loc (c : Thread nD τ)), holds c arg7 g)
      ∗ (∃ g : Buf (Elt F) (arg8.view.loc (c : Thread nD τ)), holds c arg8 g)
      ∗ (((arg1.view.loc (c : Thread nD τ) ↦[arg1.view.set]{q1} gs) ∗ (arg2.view.loc (c : Thread nD τ) ↦[arg2.view.set]{q1} fl)
          ∗ holds c arg3 (harg3.unread z) ∗ holds c arg4 (harg4.unread et) ∗ holds c arg5 (harg5.unread prov)
          ∗ (∃ g : Buf (Elt F) (arg6.view.loc (c : Thread nD τ)), holds c arg6 g ∗ ⌜Good z et prov (arg6.view.read (Elt F) g)⌝)
          ∗ (∃ g : Buf (Elt F) (arg7.view.loc (c : Thread nD τ)), holds c arg7 g)
          ∗ (∃ g : Buf (Elt F) (arg8.view.loc (c : Thread nD τ)), holds c arg8 g)) -∗ K ()))
      ⊢ wp frame (wpE (defs₀ (F := F)) Variants.none c none) Set.univ (cc1__patch_kernel i arg1 harg1 arg2 harg2 arg3 harg3 arg4 harg4 arg5 harg5 arg6 harg6 arg7 harg7 arg8 harg8) K := by
  rw [cc1__patch_kernel_eq_skeleton]
  unfold cc1__patch_kernel_skel
  simp only [k1_part7_eq_skeleton]
  iintro ⟨H1, H2, H3, H4, H5, ⟨%g6, H6⟩, ⟨%g7, H7⟩, ⟨%g8, H8⟩, HK⟩
  have hz7 : (0#32).toNat ≤ 8 * 0 ∧ IdsOk (arg7.view.read (Elt F) g7) (0#32).toNat := ⟨Nat.le_refl _, ids_none _ _ rfl⟩
  have hg0 := good_start (m := arg6) z et harg5 prov arg6.view.junk
  sl_exec (disch := first | exact hz7 | exact good_start z et harg5 prov _ | exact chk4_holds _ (scan_le (by assumption)) | exact ⟨scan_le (by assumption), And.right (by assumption)⟩ | exact scan_le (by assumption))
  sl_step
  iapply HK
  isplitl [H1]; · iexact H1
  isplitl [H2]; · iexact H2
  isplitl [H3]; · iexact H3
  isplitl [H4]; · iexact H4
  isplitl [H5]; · iexact H5
  isplitl [H6]
  · iexists _; isplitl [H6]; · iexact H6
    ipureintro; assumption
  isplitl [H7]
  · iexists _; iexact H7
  iexists _; iexact H8

/-- `patch_body` over owned buffers. -/
theorem patch_owns (q : PosShare TreeShare) (gs : Vec F S256 .i32) (fl : Vec F S2048 .i32) (z : Vec F S2048x32 .f32) (et : Vec F S32x1024 .f32) (prov : Vec F S2048x1 .i32) (K : PUnit → sProp 𝕄) :
    iprop(owns (c : Thread nD τ) arg1 q gs ∗ owns (c : Thread nD τ) arg2 q fl
      ∗ owns (c : Thread nD τ) arg3 fullShare z ∗ owns (c : Thread nD τ) arg4 fullShare et ∗ owns (c : Thread nD τ) arg5 fullShare prov
      ∗ (∃ d, owns (c : Thread nD τ) arg6 fullShare d) ∗ (∃ d, owns (c : Thread nD τ) arg7 fullShare d) ∗ (∃ d, owns (c : Thread nD τ) arg8 fullShare d)
      ∗ ((owns (c : Thread nD τ) arg1 q gs ∗ owns (c : Thread nD τ) arg2 q fl
          ∗ owns (c : Thread nD τ) arg3 fullShare z ∗ owns (c : Thread nD τ) arg4 fullShare et ∗ owns (c : Thread nD τ) arg5 fullShare prov
          ∗ (∃ X, ⌜Good z et prov X⌝ ∗ owns (c : Thread nD τ) arg6 fullShare X)
          ∗ (∃ d, owns (c : Thread nD τ) arg7 fullShare d) ∗ (∃ d, owns (c : Thread nD τ) arg8 fullShare d)) -∗ K ()))
      ⊢ wp frame (wpE (defs₀ (F := F)) Variants.none c none) Set.univ (cc1__patch_kernel i arg1 harg1 arg2 harg2 arg3 harg3 arg4 harg4 arg5 harg5 arg6 harg6 arg7 harg7 arg8 harg8) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, HK⟩
  obtain rfl := harg3.eq_unread hf3; obtain rfl := harg4.eq_unread hf4; obtain rfl := harg5.eq_unread hf5
  iapply (patch_body c i arg1 harg1 arg2 harg2 arg3 harg3 arg4 harg4 arg5 harg5 arg6 harg6 arg7 harg7 arg8 harg8 q f1 f2 z et prov K)
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H1, H2, H3, H4, H5, ⟨%g6, H6, %hg⟩, ⟨%g7, H7⟩, ⟨%g8, H8⟩⟩
  iapply HK
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]
  · iexists _; isplitr; swap
    · iexists _; isplitr; swap; · iexact H6
      ipureintro; rfl
    ipureintro; exact hg
  isplitl [H7]
  · iexists _, _; isplitr; swap; · iexact H7
    ipureintro; rfl
  iexists _, _; isplitr; swap; · iexact H8
  ipureintro; rfl

end Body

end Cert.KernelIdeal.Own

end
-- ==== Proof.Ideal.PatchRegion.lean ====
/- The second launch: its proof data, its output held to a predicate, and its body obligation. -/
module

public import proofs.«01_k».proof.Proof.Ideal.PatchBody
public import Idealize.ShloMosaic.Lib.Pipeline.DatRel
public import Idealize.ShloMosaic.Lib.Pipeline.RegionArraysT

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (a1 : (pcfg1 (F := F)).Adm)

/-- Window `w`'s block at point `t`, read off its array as the launch finds it. -/
def pblk (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

/-- Input window 0 holds its block. -/
theorem pblk_before0 {c : Dev nD} (dat : Dat τ (Elt F) Unit ℕ (UR sig nD τ) ℕ (cfg1 a1) c) (hA : dat.A 0 = V c (Pipeline.arrRef spec1 0))
    (hafter : ∀ t, dat.after 0 t = pblk V a1 c 0 t) (t : Fin (cfg1 a1).N) (d) : dat.before 0 t d = pblk V a1 c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
/-- Input window 1 holds its block. -/
theorem pblk_before1 {c : Dev nD} (dat : Dat τ (Elt F) Unit ℕ (UR sig nD τ) ℕ (cfg1 a1) c) (hA : dat.A 1 = V c (Pipeline.arrRef spec1 1))
    (hafter : ∀ t, dat.after 1 t = pblk V a1 c 1 t) (t : Fin (cfg1 a1).N) (d) : dat.before 1 t d = pblk V a1 c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
/-- Input window 2 holds its block. -/
theorem pblk_before2 {c : Dev nD} (dat : Dat τ (Elt F) Unit ℕ (UR sig nD τ) ℕ (cfg1 a1) c) (hA : dat.A 2 = V c (Pipeline.arrRef spec1 2))
    (hafter : ∀ t, dat.after 2 t = pblk V a1 c 2 t) (t : Fin (cfg1 a1).N) (d) : dat.before 2 t d = pblk V a1 c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-- The two scratch buffers and the two tables. -/
abbrev pcM0 : Memref sig .tc .smem S1024 .i32 := Memref.whole cc1_scratch0
abbrev pcM1 : Memref sig .tc .smem S1 .i32 := Memref.whole cc1_scratch1
abbrev pcT0 : Memref sig .tc .smem S256 .i32 := Memref.whole main_call0_v5
abbrev pcT1 : Memref sig .tc .smem S2048 .i32 := Memref.whole main_call0_v6

/-- The scoped buffers the second launch leaves alone. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The scoped rest, the scratch buffers as owned memrefs. -/
theorem PhiA1 (c : Dev nD) :
    (Pipeline.ΦA spec1 c : sProp 𝕄)
      ⊣⊢ iprop((others1 c ∗ (∃ d, owns (c : Thread nD τ) pcM0 fullShare d) ∗ (∃ d, owns (c : Thread nD τ) pcM1 fullShare d)) ∗ (∃ r, prngReg c r)) := by
  unfold Pipeline.ΦA; rw [scopedRest1_eq]; simp only [pcM0, pcM1, owns_whole]
  constructor
  · iintro ⟨⟨H0, H1, H2, H3, H4, H5, H6, H7, H8, H9, H10, H11, H12, H13, H14, H15, HA, HB⟩, Hp⟩
    isplitr [Hp]
    · isplitr [HA HB]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      isplitl [HA]; · iexact HA
      iexact HB
    iexact Hp
  · iintro ⟨⟨⟨H0, H1, H2, H3, H4, H5, H6, H7, H8, H9, H10, H11, H12, H13, H14, H15⟩, HA, HB⟩, Hp⟩
    isplitr [Hp]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HA]; · iexact HA
      iexact HB
    iexact Hp

/-- The tables, one by one. -/
theorem tables1 (c : Dev nD) : (Pipeline.prefHeld (Ix := Unit) (Name := ℕ) (U := UR sig nD τ) (Lvl := ℕ) pre1 c (fun _ => fullShare) a1.1 : sProp 𝕄)
    = iprop(owns (c : Thread nD τ) pcT0 fullShare (a1.1 0) ∗ owns (c : Thread nD τ) pcT1 fullShare (a1.1 1)) := by
  unfold Pipeline.prefHeld
  rw [show (Finset.univ : Finset (Fin pre1.K)) = (Finset.univ : Finset (Fin 2)) from rfl,
    bigSep_univ_eq_bigSepL [(0 : Fin 2), (1 : Fin 2)] (by decide) (by decide)]
  exact congrArg₂ (fun x y : sProp 𝕄 => iprop(x ∗ y)) (owns_whole (c : Thread nD τ) main_call0_v5 fullShare (a1.1 0)).symm
    (owns_whole (c : Thread nD τ) main_call0_v6 fullShare (a1.1 1)).symm

/-- The proof data of the second launch; what it says of its output is overridden below. -/
def dat1 (c : Dev nD) : Dat τ (Elt F) Unit ℕ (UR sig nD τ) ℕ (cfg1 a1) c where
  A w := V c (Pipeline.arrRef spec1 w)
  after w t := match w with
    | ⟨0, _⟩ => pblk V a1 c 0 t
    | ⟨1, _⟩ => pblk V a1 c 1 t
    | ⟨2, _⟩ => pblk V a1 c 2 t
    | ⟨3, _⟩ => pblk V a1 c 3 t
  Φ _ := iprop(Pipeline.ΦA spec1 c ∗ Pipeline.prefHeld pre1 c (fun _ => fullShare) a1.1)
  q _ := fullShare
  owed _ := 0

theorem dat1_A (c : Dev nD) (w : Fin (cfg1 a1).W) : (dat1 V a1 c).A w = V c (Pipeline.arrRef spec1 w) := by
  dsimp only [dat1]
theorem after1_0 (c : Dev nD) (t : Fin (cfg1 a1).N) : (dat1 V a1 c).after 0 t = pblk V a1 c 0 t := rfl
theorem after1_1 (c : Dev nD) (t : Fin (cfg1 a1).N) : (dat1 V a1 c).after 1 t = pblk V a1 c 1 t := rfl
theorem after1_2 (c : Dev nD) (t : Fin (cfg1 a1).N) : (dat1 V a1 c).after 2 t = pblk V a1 c 2 t := rfl
theorem before1_0 (c : Dev nD) (t : Fin (cfg1 a1).N) (d) : (dat1 V a1 c).before 0 t d = pblk V a1 c 0 t :=
  pblk_before0 V a1 (dat1 V a1 c) (dat1_A V a1 c 0) (after1_0 V a1 c) t d
theorem before1_1 (c : Dev nD) (t : Fin (cfg1 a1).N) (d) : (dat1 V a1 c).before 1 t d = pblk V a1 c 1 t :=
  pblk_before1 V a1 (dat1 V a1 c) (dat1_A V a1 c 1) (after1_1 V a1 c) t d
theorem before1_2 (c : Dev nD) (t : Fin (cfg1 a1).N) (d) : (dat1 V a1 c).before 2 t d = pblk V a1 c 2 t :=
  pblk_before2 V a1 (dat1 V a1 c) (dat1_A V a1 c 2) (after1_2 V a1 c) t d

/-- The output window is the one held to a predicate. -/
abbrev fgt1 : Fin 4 → Bool := fun | 3 => true | _ => false

/-- The predicate: every row is the provisional code or one computed for that row. -/
def rel1 (c : Dev nD) (w : Fin (cfg1 a1).W) (t : Fin (cfg1 a1).N) : (((cfg1 a1).win w).block.Idx → Elt F ((cfg1 a1).win w).elt) → Prop :=
  match w with
  | ⟨0, _⟩ => fun _ => True
  | ⟨1, _⟩ => fun _ => True
  | ⟨2, _⟩ => fun _ => True
  | ⟨3, _⟩ => fun X => Good (pblk V a1 c 0 t) (pblk V a1 c 1 t) (pblk V a1 c 2 t) X

/-- The current staging memref of each window. -/
abbrev st1_0 (t : Fin (cfg1 a1).N) := ((cfg1 a1).win 0).stage ((cfg1 a1).slots t 0)
abbrev st1_1 (t : Fin (cfg1 a1).N) := ((cfg1 a1).win 1).stage ((cfg1 a1).slots t 1)
abbrev st1_2 (t : Fin (cfg1 a1).N) := ((cfg1 a1).win 2).stage ((cfg1 a1).slots t 2)
abbrev st1_3 (t : Fin (cfg1 a1).N) := ((cfg1 a1).win 3).stage ((cfg1 a1).slots t 3)

/-- The body at point `t`, on what the launch calls it with. -/
abbrev bodyAt1 (t : Fin (cfg1 a1).N) : Prog (TpuEff nD τ sig (Elt F) Λ₀ .tc) PUnit :=
  cc1__patch_kernel (grid1.coords t) pcT0 (Memref.isWhole_whole _) pcT1 (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))
    (spec1_3.stage ((cfg1 a1).slots t 3)) (hstage1_3 (((cfg1 a1).slots t 3).cast nbuf1_3))
    pcM0 (Memref.isWhole_whole _) pcM1 (Memref.isWhole_whole _)

/-- What the body is called with at point `t`, -/
def bodyPre1 (c : Dev nD) (t : Fin (cfg1 a1).N) : sProp 𝕄 :=
  iprop((dat1 V a1 c).Φ t.castSucc ∗ (dat1 V a1 c).owesAt () t.castSucc
    ∗ (∃ d, owns (c : Thread nD τ) (st1_0 a1 t) fullShare ((dat1 V a1 c).before 0 t d))
    ∗ (∃ d, owns (c : Thread nD τ) (st1_1 a1 t) fullShare ((dat1 V a1 c).before 1 t d))
    ∗ (∃ d, owns (c : Thread nD τ) (st1_2 a1 t) fullShare ((dat1 V a1 c).before 2 t d))
    ∗ (∃ Y, ⌜((dat1 V a1 c).toRRel fgt1 (rel1 V a1 c)).Finds 3 t Y⌝ ∗ owns (c : Thread nD τ) (st1_3 a1 t) fullShare Y))

/-- and what it returns. -/
def bodyPost1 (c : Dev nD) (t : Fin (cfg1 a1).N) : sProp 𝕄 :=
  iprop((dat1 V a1 c).Φ t.succ ∗ (dat1 V a1 c).owesAt () t.succ
    ∗ owns (c : Thread nD τ) (st1_0 a1 t) fullShare ((dat1 V a1 c).after 0 t)
    ∗ owns (c : Thread nD τ) (st1_1 a1 t) fullShare ((dat1 V a1 c).after 1 t)
    ∗ owns (c : Thread nD τ) (st1_2 a1 t) fullShare ((dat1 V a1 c).after 2 t)
    ∗ (∃ X, ⌜rel1 V a1 c 3 t X⌝ ∗ owns (c : Thread nD τ) (st1_3 a1 t) fullShare X))

set_option maxHeartbeats 1600000 in
/-- The body at a point. -/
theorem sound_body1 (c : Dev nD) (t : Fin (cfg1 a1).N) :
    bodyPre1 V a1 c t ⊢ wp frame (wpE (defs₀ (F := F)) Variants.none c none) Set.univ (bodyAt1 a1 t) (fun _ => bodyPost1 V a1 c t) := by
  unfold bodyPre1 bodyPost1 bodyAt1
  simp only [before1_0, before1_1, before1_2]
  rw [show (dat1 V a1 c).owesAt () t.succ = (dat1 V a1 c).owesAt () t.castSucc from rfl, after1_0, after1_1, after1_2,
    show (dat1 V a1 c).Φ t.castSucc = iprop(Pipeline.ΦA spec1 c ∗ Pipeline.prefHeld pre1 c (fun _ => fullShare) a1.1) from rfl,
    show (dat1 V a1 c).Φ t.succ = iprop(Pipeline.ΦA spec1 c ∗ Pipeline.prefHeld pre1 c (fun _ => fullShare) a1.1) from rfl,
    tables1]
  iintro ⟨⟨HA, HT0, HT1⟩, Ho, ⟨%d0, H0⟩, ⟨%d1, H1⟩, ⟨%d2, H2⟩, ⟨%d3, -, H3⟩⟩
  ihave HA := (PhiA1 (F := F) c).1 $$ HA
  icases HA with ⟨⟨Hoth, HS0, HS1⟩, Hg⟩
  iapply (patch_owns c (grid1.coords t) _ _ _ _ _ _ _ _ _ _ _ _ _ _ _ _ fullShare (a1.1 0) (a1.1 1) (pblk V a1 c 0 t) (pblk V a1 c 1 t) (pblk V a1 c 2 t) _)
  isplitl [HT0]; · iexact HT0
  isplitl [HT1]; · iexact HT1
  isplitl [H0]; · iexact H0
  isplitl [H1]; · iexact H1
  isplitl [H2]; · iexact H2
  isplitl [H3]; · iexists _; iexact H3
  isplitl [HS0]; · iexact HS0
  isplitl [HS1]; · iexact HS1
  iintro ⟨HT0, HT1, H0, H1, H2, H3, HS0, HS1⟩
  isplitl [HS0 HS1 Hoth Hg HT0 HT1]
  · isplitr [HT0 HT1]
    · iapply (PhiA1 (F := F) c).2
      isplitr [Hg]
      · isplitl [Hoth]; · iexact Hoth
        isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  iexact H3

/-- The body table's row at the point's slots is the body as `bodyAt1` spells it. -/
theorem defs₀_row1 (t : Fin (cfg1 a1).N) :
    defs₀ (F := F) .tc (cfg1 a1).body ((cfg1 a1).bodyArgs t ((cfg1 a1).slots t)) = bodyAt1 a1 t := by
  unfold defs₀; rw [Defs.onTc_tc]

/-- The body does at every point what the proof data says. -/
theorem body_obligation1 (c : Dev nD) : ((dat1 (F := F) V a1 c).toRRel fgt1 (rel1 V a1 c)).BodyObligation (defs₀ (F := F)) Variants.none () Set.univ := by
  refine Pipeline.BodyObligationRel.toRRel (dat1 (F := F) V a1 c) (fun t => ?_)
  rw [bigSep_W1, bigSep_W1, defs₀_row1]
  exact triple_restated (sound_body1 V a1 c t) rfl .rfl fun _ => .rfl

end Region

end Cert.KernelIdeal.Own

end
-- ==== Proof.Ideal.Run.lean ====
/- The whole program: its two launches and the host stretches around them, run one after the other. -/
module

public import proofs.«01_k».proof.Proof.Ideal.ScoreRegion
public import proofs.«01_k».proof.Proof.Ideal.PatchRegion
public import proofs.«01_k».proof.Proof.Gen.KernelIdeal.Regions
public import Idealize.ShloMosaic.Lib.Pipeline.ArrRel
public import Idealize.ShloMosaic.Lib.Pipeline.Frame
public import Idealize.ShloMosaic.Lib.Pipeline.Regions
public import Idealize.ShloMosaic.Lib.Pipeline.FrameSuffix
public import Idealize.ShloMosaic.Lib.Pipeline.RegionsLoop
public import Idealize.ShloMosaic.Lib.Pipeline.RegionArraysT

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ)

/-! ## What the arrays hold between the steps -/

/-- As launched. -/
abbrev H0 (c : Dev nD) : Valuation τ sig (Elt F) := fun b => m (c, b)
/-- After the first host stretch: the inputs laid out for the first kernel. -/
abbrev H1 (c : Dev nD) : Valuation τ sig (Elt F) := StableHlo.after hostOps0 (H0 m c)
abbrev U1 : (c : Dev nD) → (b : Ref sig .tc) → Buf (Elt F) ((c : Thread nD τ).loc b) := fun c b => H1 m c b
/-- After the first kernel. -/
def H2 (c : Dev nD) : Valuation τ sig (Elt F) :=
  Pipeline.withArrays spec0 c (H1 m c) fun w => (dat0 (U1 m) c).arrAt w cfg0.N
abbrev U2 : (c : Dev nD) → (b : Ref sig .tc) → Buf (Elt F) ((c : Thread nD τ).loc b) := fun c b => H2 m c b
/-- After the second host stretch: the tables and the provisional codes. -/
abbrev H3 (c : Dev nD) : Valuation τ sig (Elt F) := StableHlo.after hostOps1 (H2 m c)
abbrev U3 : (c : Dev nD) → (b : Ref sig .tc) → Buf (Elt F) ((c : Thread nD τ).loc b) := fun c b => H3 m c b
/-- After the second kernel, if it left `f` in its output. -/
abbrev H4 (c : Dev nD) (f : Buf (Elt F) ((c : Thread nD τ).loc main_call0_v8)) : Valuation τ sig (Elt F) :=
  Function.update (H3 m c) (Proc.devRef .tc main_call0_v8) f
/-- At the end. -/
abbrev H5 (c : Dev nD) (f : Buf (Elt F) ((c : Thread nD τ).loc main_call0_v8)) : Valuation τ sig (Elt F) :=
  StableHlo.after hostOps2 (H4 m c f)

theorem H2_arr (c : Dev nD) (w : Fin cfg0.W) :
    H2 m c (Proc.devRef .tc (Pipeline.arrRef spec0 w)) = (dat0 (U1 m) c).arrAt w cfg0.N := by
  unfold H2; exact Pipeline.withArrays_arr spec0 (launch0 (F := F)).win.arr_inj c _ _ w
theorem H2_of_ne (c : Dev nD) (b : Ref sig .tc) (hb : ∀ w, Pipeline.arrRef spec0 w ≠ b) :
    H2 m c (Proc.devRef .tc b) = H1 m c (Proc.devRef .tc b) := by
  unfold H2; exact Pipeline.withArrays_of_ne spec0 c _ _ b hb
/-- The first kernel changes its outputs only. -/
theorem H2_of (c : Dev nD) (r : Ref sig .tc) (h : ∀ w : Fin cfg0.W, Pipeline.arrRef spec0 w = r → (cfg0.win w).isOut = false) :
    H2 m c (Proc.devRef .tc r) = H1 m c (Proc.devRef .tc r) := by
  by_cases hw : ∃ w : Fin cfg0.W, Pipeline.arrRef spec0 w = r
  · obtain ⟨w, rfl⟩ := hw
    exact (H2_arr m c w).trans (((dat0 (U1 m) c).arrAt_in w (h w rfl) _).trans (dat0_A (U1 m) c w))
  · exact H2_of_ne m c r fun w e => hw ⟨w, e⟩
theorem H3_of (c : Dev nD) (r : Ref sig .tc) (h : r ∉ hostOps1_W) : H3 m c (Proc.devRef .tc r) = H2 m c (Proc.devRef .tc r) :=
  StableHlo.after_of_writes_sub hostOps1 _ hostOps1_writes h
theorem H4_self (c : Dev nD) (f) : H4 m c f (Proc.devRef .tc main_call0_v8) = f := Function.update_self ..
theorem H4_of (c : Dev nD) (f) (r : Ref sig .tc) (h : r ≠ main_call0_v8) : H4 m c f (Proc.devRef .tc r) = H3 m c (Proc.devRef .tc r) :=
  Function.update_of_ne (StableHlo.devRef_ne_of_ne h) ..
theorem H5_of (c : Dev nD) (f) (r : Ref sig .tc) (h : r ∉ hostOps2_W) : H5 m c f (Proc.devRef .tc r) = H4 m c f (Proc.devRef .tc r) :=
  StableHlo.after_of_writes_sub hostOps2 _ hostOps2_writes h

/-- The two arguments end as launched. -/
theorem H5_arg0 (c : Dev nD) (f) : H5 m c f (Proc.devRef .tc main_arg0) = m ((c : Thread nD τ).loc main_arg0) :=
  (H5_of m c f main_arg0 (by decide)).trans <| (H4_of m c f main_arg0 (by decide)).trans <| (H3_of m c main_arg0 (by decide)).trans <|
    (H2_of m c main_arg0 (by decide)).trans (StableHlo.after_of_writes_sub hostOps0 _ hostOps0_writes (by decide))
theorem H5_arg1 (c : Dev nD) (f) : H5 m c f (Proc.devRef .tc main_arg1) = m ((c : Thread nD τ).loc main_arg1) :=
  (H5_of m c f main_arg1 (by decide)).trans <| (H4_of m c f main_arg1 (by decide)).trans <| (H3_of m c main_arg1 (by decide)).trans <|
    (H2_of m c main_arg1 (by decide)).trans (StableHlo.after_of_writes_sub hostOps0 _ hostOps0_writes (by decide))

/-! ## The two launches' data -/

/-- The tables the second kernel is called with: what the second host stretch leaves in them. -/
def tabs : (p : Fin 2) → (pcfgs (F := F) p).Adm
  | ⟨0, _⟩ => cfg0.toPCfg_adm
  | ⟨1, _⟩ => ⟨fun k => H3 m (0 : Dev nD) (Proc.devRef .tc (pre1.ref k)), trivial⟩

/-- Each launch's data with every output named. -/
def xdats : (p : Fin 2) → (c : Dev nD) → Dat τ (Elt F) Unit ℕ (UR sig nD τ) ℕ (Pipeline.pin (pcfgs (F := F)) (tabs m) p) c
  | ⟨0, _⟩ => fun c => dat0 (U1 m) c
  | ⟨1, _⟩ => fun c => dat1 (U3 m) (tabs m 1) c

/-- Each launch's data, the second one's output known up to the predicate. -/
def rdats : (p : Fin 2) → (c : Dev nD) → Pipeline.RDat τ (Elt F) Unit ℕ (UR sig nD τ) ℕ (Pipeline.pin (pcfgs (F := F)) (tabs m) p) c
  | ⟨0, _⟩ => fun c => (dat0 (U1 m) c).toR
  | ⟨1, _⟩ => fun c => (dat1 (U3 m) (tabs m 1) c).toRRel fgt1 (rel1 (U3 m) (tabs m 1) c)

/-- No core owes another anything. -/
abbrev noPairs : GSem nD τ sig → Finset Unit := fun _ => ∅
abbrev noLvl : GSem nD τ sig → Unit → ℕ := fun _ _ => 0
/-- What rides along beside the arrays. -/
abbrev Rest (c : Dev nD) : sProp 𝕄 := iprop((∃ r, prngReg c r) ∗ ∃ W, owes (c : Thread nD τ) (0 : CellTallies nD τ sig Unit) W)

/-- A host stretch run from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first launch -/

/-- What the first kernel leaves in its scratch buffers is something. -/
theorem scPhi_weaken (V : (c : Dev nD) → (b : Ref sig .tc) → Buf (Elt F) ((c : Thread nD τ).loc b)) (c : Dev nD) :
    (scPhi V c 2 : sProp 𝕄) ⊢ iprop(((∃ d, owns (c : Thread nD τ) scM0 fullShare d) ∗ (∃ d, owns (c : Thread nD τ) scM1 fullShare d) ∗ others0 c) ∗ (∃ r, prngReg c r)) := by
  rw [show (scPhi V c 2 : sProp 𝕄) = iprop(iprop(owns (c : Thread nD τ) scM0 fullShare (rE2 V c) ∗ owns (c : Thread nD τ) scM1 fullShare (scW8 (F := F)) ∗ others0 c) ∗ (∃ r, prngReg c r)) from if_neg (by decide)]
  iintro ⟨⟨H0, H1, Ho⟩, Hp⟩
  isplitr [Hp]
  · isplitl [H0]; · iexists _; iexact H0
    isplitl [H1]; · iexists _; iexact H1
    iexact Ho
  iexact Hp

set_option backward.isDefEq.respectTransparency.types false in
/-- The first launch, from the arrays at `H1` to the arrays at `H2`. -/
def launchScore : Pipeline.RegionSeg (pcfgs (F := F)) (tabs m) (xdats m) () defs₀ Variants.none noPairs noLvl 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (U1 m) c).loose
  hwaits := Pipeline.hwaits_of_owed_zero _ _ _ _ noPairs noLvl 0 fun _ _ => rfl
  pre c := iprop(StableHlo.held (c : Thread nD τ) (Pipeline.ucRefs τ sig) (H1 m c) ∗ Rest c)
  post c := iprop(StableHlo.held (c : Thread nD τ) (Pipeline.ucRefs τ sig) (H2 m c) ∗ Rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) (tabs m) (xdats m) (launch0 (F := F)).win (launch0 (F := F)).arr_whole c
      ((xdats m 0 c).share_full fun _ => rfl) (U1 m c) (dat0_A (U1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (xdats m 0 c).Φ 0 = Pipeline.ΦA spec0 c from rfl]; unfold Pipeline.ΦA
    iintro ⟨Hp, -, Hr⟩
    isplitl [Hr]; · iexact Hr
    iexact Hp
  hout c := by
    have hΦ : ((xdats m 0 c).Φ (Fin.last _) : sProp 𝕄) ⊢ Pipeline.ΦA spec0 c := by
      rw [show (xdats m 0 c).Φ (Fin.last _) = scPhi (U1 m) c 2 from rfl, PhiA0 c]
      exact scPhi_weaken (U1 m) c
    refine hΦ.trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (tabs m) (Ix := Unit) (Name := ℕ) (U := UR sig nD τ) (Lvl := ℕ)
      (launch0 (F := F)).win (launch0 (F := F)).arr_whole c (xdats m) ((xdats m 0 c).share_full fun _ => rfl)
      (U1 m c) (U2 m c) ((xdats m 0 c).arrAt · cfg0.N) (fun w => (H2_arr m c w).symm)
      (fun b hb => H2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The same launch beside the second one's data. -/
def launchScoreR : Pipeline.RDat.RegionSeg (pcfgs (F := F)) (tabs m) (rdats m) () defs₀ Variants.none noPairs noLvl 0 :=
  let R := (launchScore m).toR (pcfgs (F := F)) (tabs m) (xdats m) () defs₀ Variants.none noPairs noLvl
  { win := R.win
    block_pos := R.block_pos
    stage_whole := R.stage_whole
    K := R.K
    fK := R.fK
    osem := R.osem
    ho := R.ho
    hbody := R.hbody
    hwaits := Pipeline.RDat.hwaits_of_owed_zero _ _ _ _ noPairs noLvl 0 fun _ _ => rfl
    pre := R.pre
    post := R.post
    X := R.X
    Y := R.Y
    Z := R.Z
    hentry := R.hentry
    hin := R.hin
    hout := R.hout
    hexit := R.hexit }

/-! ## The second launch -/

/-- What is known of the second kernel's output `f`: it is what the body left in its block. -/
def Patched (c : Dev nD) (f : Buf (Elt F) ((c : Thread nD τ).loc main_call0_v8)) : Prop :=
  ∃ G : (w : Fin (cfg1 (tabs m 1)).W) → Buf (Elt F) (((cfg1 (tabs m 1)).win w).arr.view.loc (c.tc : Thread nD τ)),
    G 3 = f ∧ ((dat1 (U3 m) (tabs m 1) c).toRRel fgt1 (rel1 (U3 m) (tabs m 1) c)).ArrAt 3 (cfg1 (tabs m 1)).N (G 3)

theorem tabs_eq (c : Dev nD) (k) : (tabs m 1).1 k = H3 m c (Proc.devRef .tc (pre1.ref k)) := by
  obtain rfl : c = 0 := Subsingleton.elim _ _
  rfl

/-- The inputs of the second launch are its first three windows, and its output is none of them. -/
theorem arr1_ne : ∀ w : Fin 4, w ≠ 3 → Pipeline.arrRef spec1 w ≠ main_call0_v8 := by decide

theorem tbl1_ne (k) : pre1.ref k ≠ main_call0_v8 := by
  revert k; decide
theorem arr1_in : ∀ w : Fin 4, w ≠ 3 → (spec1 w).isOut = false := by decide

/-- The arrays and the tables of the second launch are held among the arrays that outlive a launch. -/
theorem arrs1_sub : Pipeline.arrRefs (τ := τ) spec1 ⊆ Pipeline.ucRefs τ sig := Pipeline.arrRefs_sub_ucRefs spec1 winFacts1.arr_unscoped
theorem tbls1_sub : Pipeline.tblRefs (τ := τ) pre1 ⊆ Pipeline.ucRefs τ sig \ Pipeline.arrRefs spec1 :=
  Pipeline.tblRefs_sub_ucRefs_sdiff spec1 pre1 preFacts1.unscoped preFacts1.disj

/-- The second launch's arrays, held. -/
theorem arrays1_held (c : Dev nD) (G : (w : Fin (cfg1 (tabs m 1)).W) → Buf (Elt F) (((cfg1 (tabs m 1)).win w).arr.view.loc (c.tc : Thread nD τ)))
    (Wc : Valuation τ sig (Elt F)) (hG : ∀ w, G w = Wc (Proc.devRef .tc (Pipeline.arrRef spec1 w))) :
    ((rdats m 1 c).arrays G : sProp 𝕄) = StableHlo.held (c : Thread nD τ) (Pipeline.arrRefs spec1) Wc :=
  Pipeline.arrays_held (pcfgs (F := F)) (tabs m) (xdats m) 1 (launch1 (F := F)) c ((xdats m 1 c).share_full fun _ => rfl) G Wc hG

set_option backward.isDefEq.respectTransparency.types false in
/-- After the second launch: its output at some admissible contents, its inputs as they were. -/
theorem arrays1_some (c : Dev nD) : ((rdats m 1 c).arraysAt (cfg1 (tabs m 1)).N : sProp 𝕄)
    ⊢ iprop(∃ f, ⌜Patched m c f⌝ ∗ StableHlo.held (c : Thread nD τ) (Pipeline.arrRefs spec1) (H4 m c f)) := by
  unfold Pipeline.RDat.arraysAt
  refine (BI.bigSep_exists_pi Finset.univ _).trans ?_
  iintro ⟨%A, H⟩
  ihave H' := (BI.bigSep_pure_sep Finset.univ (fun w => (rdats m 1 c).ArrAt w (cfg1 (tabs m 1)).N (A w)) _) $$ H
  icases H' with ⟨%hA, H⟩
  iexists (A 3)
  isplitr
  · ipureintro; exact ⟨A, rfl, hA 3 (Finset.mem_univ _)⟩
  have hG : ∀ w, A w = H4 m c (A 3) (Proc.devRef .tc (Pipeline.arrRef spec1 w)) := fun w => by
    by_cases h : w = 3
    · subst h; exact (H4_self m c (A 3)).symm
    · rw [H4_of m c (A 3) _ (arr1_ne w h)]
      exact ((congrFun (Pipeline.RDat.ArrAt_in (rdats m 1 c) w (arr1_in w h) _) (A w)).mp (hA w (Finset.mem_univ _))).trans (dat1_A (U3 m) (tabs m 1) c w)
  have he := Entails.of_eq (arrays1_held m c A (H4 m c (A 3)) hG)
  unfold Pipeline.RDat.arrays at he
  iapply he
  iexact H

/-- The arrays put back together. -/
theorem held_join1 (c : Dev nD) (f) :
    iprop(StableHlo.held (c : Thread nD τ) (Pipeline.arrRefs spec1) (H4 m c f)
      ∗ Pipeline.prefHeld (Ix := Unit) (Name := ℕ) (U := UR sig nD τ) (Lvl := ℕ) pre1 c (fun _ => fullShare) (tabs m 1).1
      ∗ StableHlo.held (c : Thread nD τ) ((Pipeline.ucRefs τ sig \ Pipeline.arrRefs spec1) \ Pipeline.tblRefs pre1) (H3 m c))
    ⊢ (StableHlo.held (c : Thread nD τ) (Pipeline.ucRefs τ sig) (H4 m c f) : sProp 𝕄) := by
  have hv8 : ∀ b ∈ (Pipeline.ucRefs τ sig \ Pipeline.arrRefs (τ := τ) spec1), H3 m c b = H4 m c f b := fun b hb => by
    refine (Function.update_of_ne ?_ ..).symm
    rintro rfl
    exact (Finset.mem_sdiff.mp hb).2 (Finset.mem_map.mpr ⟨_, Finset.mem_image.mpr ⟨(3 : Fin 4), Finset.mem_univ _, rfl⟩, rfl⟩)
  rw [StableHlo.held_sub_split (c : Thread nD τ) arrs1_sub (H4 m c f), StableHlo.held_sub_split (c : Thread nD τ) tbls1_sub (H4 m c f),
    ← Pipeline.prefHeld_held pre1 preFacts1.inj c (tabs m 1).1 (H4 m c f) (fun k => (tabs_eq m c k).trans
      (H4_of m c f _ (tbl1_ne k)).symm),
    StableHlo.held_congr (c : Thread nD τ) (fun b hb => hv8 b (Finset.mem_sdiff.mp hb).1)]
  try exact .rfl

set_option backward.isDefEq.respectTransparency.types false in
/-- The second launch, from the arrays at `H3` to the arrays at `H4`. -/
def launchPatch : Pipeline.RDat.RegionSeg (pcfgs (F := F)) (tabs m) (rdats m) () defs₀ Variants.none noPairs noLvl 1 where
  win := (launch1 (F := F)).win.to₀
  block_pos := (launch1 (F := F)).block_pos
  stage_whole := (launch1 (F := F)).stage_whole
  K := PEmpty
  osem k := k.elim
  ho := Pipeline.OwnSemFacts.none _
  hbody c := body_obligation1 (U3 m) (tabs m 1) c
  hwaits := Pipeline.RDat.hwaits_of_owed_zero _ _ _ _ noPairs noLvl 1 fun _ _ => rfl
  pre c := iprop(StableHlo.held (c : Thread nD τ) (Pipeline.ucRefs τ sig) (H3 m c) ∗ Rest c)
  post c := iprop(∃ f, ⌜Patched m c f⌝ ∗ StableHlo.held (c : Thread nD τ) (Pipeline.ucRefs τ sig) (H4 m c f) ∗ Rest c)
  X c := iprop(∃ r, prngReg c r)
  Y c := iprop((∃ r, prngReg c r) ∗ Pipeline.prefHeld (Ix := Unit) (Name := ℕ) (U := UR sig nD τ) (Lvl := ℕ) pre1 c (fun _ => fullShare) (tabs m 1).1)
  Z c := StableHlo.held (c : Thread nD τ) ((Pipeline.ucRefs τ sig \ Pipeline.arrRefs spec1) \ Pipeline.tblRefs pre1) (H3 m c)
  hentry c := by
    rw [Pipeline.ownSems0_none]
    rw [StableHlo.held_sub_split (c : Thread nD τ) arrs1_sub (H3 m c), StableHlo.held_sub_split (c : Thread nD τ) tbls1_sub (H3 m c)]
    rw [← arrays1_held m c (rdats m 1 c).A (H3 m c) (dat1_A (U3 m) (tabs m 1) c),
      ← Pipeline.prefHeld_held pre1 preFacts1.inj c (tabs m 1).1 (H3 m c) (tabs_eq m c)]
    iintro ⟨⟨⟨Ha, Ht, Hr⟩, Hp, HO⟩, -, -⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hr
  hin c := by
    rw [show (rdats m 1 c).Φ 0 = iprop(Pipeline.ΦA spec1 c ∗ Pipeline.prefHeld pre1 c (fun _ => fullShare) (tabs m 1).1) from rfl]
    unfold Pipeline.ΦA
    iintro ⟨Hp, Ht, Hr⟩
    isplitl [Hp Hr]
    · isplitl [Hr]; · iexact Hr
      iexact Hp
    iexact Ht
  hout c := by
    rw [Pipeline.ownSems0_none, show (rdats m 1 c).Φ (Fin.last _)
      = iprop(Pipeline.ΦA spec1 c ∗ Pipeline.prefHeld pre1 c (fun _ => fullShare) (tabs m 1).1) from rfl]
    unfold Pipeline.ΦA
    iintro ⟨⟨Hr, Hp⟩, Ht⟩
    isplitl [Hp Ht]
    · isplitl [Hp]; · iexact Hp
      iexact Ht
    isplitr; · iempintro
    iexact Hr
  hexit c := by
    have hsome := arrays1_some m c
    iintro ⟨Ha, HO, ⟨HY, Ht⟩, Hrest⟩
    ihave Ha := hsome $$ Ha
    icases Ha with ⟨%f, %hf, Ha⟩
    imodintro
    iexists f
    isplitr; · ipureintro; exact hf
    isplitl [Ha Ht Hrest]
    · iapply (held_join1 m c f)
      isplitl [Ha]; · iexact Ha
      isplitl [Ht]; · iexact Ht
      iexact Hrest
    isplitl [HY]; · iexact HY
    unfold Pipeline.RDat.owesAt Pipeline.owesWithin
    icases HO with ⟨%W, -, HO⟩; iexists W; iexact HO

/-! ## The last host stretch and the whole program -/

set_option backward.isDefEq.respectTransparency.types false in
/-- The last host stretch, from whatever the second kernel left. -/
def lastStretch : Pipeline.HostSeg (Name := ℕ) (U := UR sig nD τ) (pcfgs (F := F)) defs₀ Variants.none noPairs noLvl where
  prog := StableHlo.seq hostOps2
  pre c := iprop(∃ f, ⌜Patched m c f⌝ ∗ StableHlo.held (c : Thread nD τ) (Pipeline.ucRefs τ sig) (H4 m c f) ∗ Rest c)
  post c := iprop((∃ f, ⌜Patched m c f⌝ ∗ StableHlo.held (c : Thread nD τ) (Pipeline.ucRefs τ sig) (H5 m c f)) ∗ Rest c)
  run c {β} k K := by
    iintro ⟨Hk, Hbd, ⟨%f, %hf, Hh, HR⟩, -⟩
    have hseq := StableHlo.wp_seq (defs := Pipeline.defs (pcfgs (F := F)) (defs₀ (F := F))) (Variants.lift Variants.none) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (H4 m c f)
    iapply hseq $$ [Hbd Hh]
    · isplitl [Hbd] <;> iassumption
    iintro ⟨Hbd, Hh⟩
    iapply Hk
    isplitl [Hbd]; · iexact Hbd
    isplitl [Hh]
    · iexists f
      isplitr; · ipureintro; exact hf
      iexact Hh
    iexact HR

/-- The program's five steps. -/
abbrev steps : List (Pipeline.RDat.Seg (pcfgs (F := F)) (tabs m) (rdats m) () defs₀ Variants.none noPairs noLvl) :=
  [ .host (stretch hostOps0 hostOps0_sub hostOps0_fresh (H0 m)),
    .region (launchScoreR m),
    .host (stretch hostOps1 hostOps1_sub hostOps1_fresh (H2 m)),
    .region (launchPatch m),
    .host (lastStretch m) ]

theorem main_steps (c : Dev nD) : main (F := F) c = Pipeline.RDat.Seg.run (steps m) := (main_chain c).trans (by chain_rfl)

theorem sems_scoped : ∀ sm : SemLoc sig, sm.isScoped .tc = true := by decide

set_option backward.isDefEq.respectTransparency.types false in
/-- Every run of the program ends, with the arrays at `H5` for some output of the second kernel that it may leave, the
    arguments as launched and every counter at zero. -/
theorem run_main (ρ : Dev nD → PrngReg) : θ_run defs (onTc (τ := τ) (main (F := F))) ⟨m, fun _ => 0, ρ⟩ (fun r => (∀ c : Dev nD,
      ∃ f, Patched m c f ∧ ∀ b ∈ Pipeline.ucRefs τ sig, r.2.mem (((c : Thread nD τ)).1, b) = H5 m c f b)
      ∧ r.2.sem = fun _ => 0) :=
  Pipeline.RDat.θ_run_regions_kit_sems (pcfgs (F := F)) (tabs m) (rdats m) () (cellOf_inj (tabs m)) emb₁ defs₀ Variants.none noPairs noLvl m ρ main (steps m)
    (fun c Q => by rw [main_steps m c])
    (by simp only [steps, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) (tabs m)) (cellOf_inj (tabs m))) (Pipeline.launchToks (Pipeline.pin (pcfgs (F := F)) (tabs m)) (cellOf_inj (tabs m))))
    (hu₀ := by
      iintro Hu; imodintro
      isplitl [Hu]
      · iapply (show (ownU (initOf (Pipeline.cells (Pipeline.pin (pcfgs (F := F)) (tabs m)) (cellOf_inj (tabs m))) (Pipeline.launchToks (Pipeline.pin (pcfgs (F := F)) (tabs m)) (cellOf_inj (tabs m)))) : sProp 𝕄)
            ⊢ BI.own (emb₁ (initOf (Pipeline.cells (Pipeline.pin (pcfgs (F := F)) (tabs m)) (cellOf_inj (tabs m))) (Pipeline.launchToks (Pipeline.pin (pcfgs (F := F)) (tabs m)) (cellOf_inj (tabs m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (H0 m c) ∗ Rest c))
    (Tₙ := fun c => iprop((∃ f, ⌜Patched m c f⌝ ∗ StableHlo.held (c : Thread nD τ) (Pipeline.ucRefs τ sig) (H5 m c f)) ∗ ∃ r, prngReg c r))
    (hch := ⟨fun _ => .rfl, fun _ => .rfl, fun _ => .rfl, fun _ => .rfl, fun _ => .rfl, fun c => by
      dsimp only [Pipeline.RDat.Seg.post, lastStretch]
      iintro ⟨Hh, Hp, HO⟩
      isplitl [Hh Hp]
      · isplitl [Hh]; · iexact Hh
        iexact Hp
      iexact HO⟩)
    (hinit := by
      refine Pipeline.initEach noPairs noLvl fun c => ?_
      rw [show unscopedBufs c (fun b => m ((c : Thread nD τ).loc b)) = StableHlo.held (c : Thread nD τ) (Pipeline.ucRefs τ sig) (H0 m c)
        from Pipeline.unscopedBufs_held c (H0 m c)]
      iintro ⟨⟨Hh, -, HO, -, Hp, -⟩, -⟩
      imodintro
      isplitl [Hh]; · iexact Hh
      isplitl [Hp]; · iexists _; iexact Hp
      iexists ∅; iexact HO)
    (QY := fun c s => ∃ f, Patched m c f ∧ ∀ b ∈ Pipeline.ucRefs τ sig, s.mem (((c : Thread nD τ)).1, b) = H5 m c f b)
    (hfin := fun c s' => by
      iintro ⟨⟨⟨%f, %hf, Hh⟩, -⟩, HSI⟩
      unfold StableHlo.held
      have hread := pointsTo_read_all (Ix := Unit) (Name := ℕ) (U := UR sig nD τ) (Lvl := ℕ) (Pipeline.ucRefs τ sig) (fun b => (((c : Thread nD τ)).1, b)) (H5 m c f) s'
      imodintro
      ihave H := hread $$ [Hh HSI]
      · isplitl [Hh] <;> iassumption
      icases H with ⟨%hb, HSI⟩
      isplitr
      · ipureintro; exact ⟨f, hf, hb⟩
      iexact HSI)
    (hQ := fun s h hz => ⟨h, funext fun g => hz g (.inr (sems_scoped g.2))⟩)

/-- Every run of the program ends with the arguments as launched and every counter at zero. -/
theorem frame_main (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => by
    obtain ⟨f, -, hb⟩ := h.1 c
    exact ⟨(hb _ (mem_unscoped main_arg0 (by decide))).trans (H5_arg0 m c f),
      (hb _ (mem_unscoped main_arg1 (by decide))).trans (H5_arg1 m c f)⟩, h.2⟩) (run_main m ρ)

end Run

end Cert.KernelIdeal.Own

end
-- ==== Proof.RefRun.lean ====
/- The reference run on one device: its operations in order, and what its results hold afterwards. -/
module

public import proofs.«01_k».proof.Proof.Gen.ReferenceIdeal
public import Idealize.ShloMosaic.Lib.StableHlo.Run

@[expose] public section

set_option maxRecDepth 16384

noncomputable section

namespace Cert.ReferenceIdeal.Own

open Cert.ReferenceIdeal
open Idealize.ShloMosaic Idealize.ShloMosaic.TcCoe Idealize.ShloMosaic.StableHlo Idealize.SL.Sem
open Facts₀ Facts

variable {F : FTy → Type} [FloatOps F]

/-- The operations that give the distances. -/
abbrev ops0 : List (HloOp τ sig (Elt F)) :=
  [ StableHlo.unary main_arg0 main_v0 ((transpose S2x32x32x32 [0, 3, 1, 2] · transposes_S2x32x32x32_S2x32x32x32_0_3_1_2) : (⟨S2x32x32x32, .f32⟩ : BufTy).Contents (Elt F) → (⟨S2x32x32x32, .f32⟩ : BufTy).Contents (Elt F)),
    StableHlo.reshape main_v0 main_v1 (rfl : (.f32 : EltTy) = .f32) shapeCasts_S2x32x32x32_S2048x32,
    StableHlo.unary main_v1 main_v2 (broadcastInDim S2048x1x32 ![0, 2] bcast_S2048x32_S2048x1x32_0_2 : (⟨S2048x32, .f32⟩ : BufTy).Contents (Elt F) → (⟨S2048x1x32, .f32⟩ : BufTy).Contents (Elt F)),
    StableHlo.unary main_arg1 main_v3 (broadcastInDim S1x1024x32 ![1, 2] bcast_S1024x32_S1x1024x32_1_2 : (⟨S1024x32, .f32⟩ : BufTy).Contents (Elt F) → (⟨S1x1024x32, .f32⟩ : BufTy).Contents (Elt F)),
    StableHlo.unary main_v2 main_v4 (broadcastInDim S2048x1024x32 ![0, 1, 2] bcast_S2048x1x32_S2048x1024x32_0_1_2 : (⟨S2048x1x32, .f32⟩ : BufTy).Contents (Elt F) → (⟨S2048x1024x32, .f32⟩ : BufTy).Contents (Elt F)),
    StableHlo.unary main_v3 main_v5 (broadcastInDim S2048x1024x32 ![0, 1, 2] bcast_S1x1024x32_S2048x1024x32_0_1_2 : (⟨S1x1024x32, .f32⟩ : BufTy).Contents (Elt F) → (⟨S2048x1024x32, .f32⟩ : BufTy).Contents (Elt F)),
    StableHlo.binary main_v4 main_v5 main_v6 (subf : (⟨S2048x1024x32, .f32⟩ : BufTy).Contents (Elt F) → (⟨S2048x1024x32, .f32⟩ : BufTy).Contents (Elt F) → (⟨S2048x1024x32, .f32⟩ : BufTy).Contents (Elt F)),
    StableHlo.TRef.binary (.of main_v6 : StableHlo.TRef sig ⟨S2048x1024x32, .f32⟩) (.of main_v6 : StableHlo.TRef sig ⟨S2048x1024x32, .f32⟩) (.of main_call0_v0 : StableHlo.TRef sig ⟨S2048x1024x32, .f32⟩) mulf,
    StableHlo.TRef.nullary (.of main_call0_cst : StableHlo.TRef sig ⟨S_, .f32⟩) (constant S_ .f32 0x00000000#32),
    StableHlo.TRef.binary (.of main_call0_v0 : StableHlo.TRef sig ⟨S2048x1024x32, .f32⟩) (.of main_call0_cst : StableHlo.TRef sig ⟨S_, .f32⟩) (.of main_call0_v1 : StableHlo.TRef sig ⟨S2048x1024, .f32⟩) (fun x v => Host.reduceAdd x v reducesTo_S2048x1024x32_S2048x1024_d2 h_S_),
    StableHlo.TRef.unary (.of main_call0_v1 : StableHlo.TRef sig ⟨S2048x1024, .f32⟩) (.of main_v7 : StableHlo.TRef sig ⟨S2048x1024, .f32⟩) Host.sqrt ]

theorem ops0_sub : (ops0 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., binary_bufs_sub .., nullary_bufs_sub .., binary_bufs_sub .., unary_bufs_sub ..⟩

/-- The operations that give the nearest code. -/
abbrev ops1 : List (HloOp τ sig (Elt F)) :=
  [ StableHlo.TRef.nullary (.of main_call1_v0 : StableHlo.TRef sig ⟨S2048x1024, .i32⟩) (iotaInDim S2048x1024 32 1),
    StableHlo.TRef.nullary (.of main_call1_cst : StableHlo.TRef sig ⟨S_, .f32⟩) (constant S_ .f32 0x7F800000#32),
    StableHlo.TRef.nullary (.of main_call1_c : StableHlo.TRef sig ⟨S_, .i32⟩) (constantI S_ 32 0#32),
    StableHlo.TRef.quaternary (.of main_v7 : StableHlo.TRef sig ⟨S2048x1024, .f32⟩) (.of main_call1_v0 : StableHlo.TRef sig ⟨S2048x1024, .i32⟩) (.of main_call1_cst : StableHlo.TRef sig ⟨S_, .f32⟩) (.of main_call1_c : StableHlo.TRef sig ⟨S_, .i32⟩) (.of main_call1_v1_0 : StableHlo.TRef sig ⟨S2048, .f32⟩) (fun x y u v j => (Host.argReduce reducer_argmin_f32_i32 x y u v reducesTo_S2048x1024_S2048_d1 h_S_ j).1),
    StableHlo.TRef.quaternary (.of main_v7 : StableHlo.TRef sig ⟨S2048x1024, .f32⟩) (.of main_call1_v0 : StableHlo.TRef sig ⟨S2048x1024, .i32⟩) (.of main_call1_cst : StableHlo.TRef sig ⟨S_, .f32⟩) (.of main_call1_c : StableHlo.TRef sig ⟨S_, .i32⟩) (.of main_v8 : StableHlo.TRef sig ⟨S2048, .i32⟩) (fun x y u v j => (Host.argReduce reducer_argmin_f32_i32 x y u v reducesTo_S2048x1024_S2048_d1 h_S_ j).2) ]

theorem ops1_sub : (ops1 : List (HloOp τ sig (Elt F))).Forall fun op => op.bufs ⊆ tcRefs τ sig :=
  ⟨nullary_bufs_sub .., nullary_bufs_sub .., nullary_bufs_sub .., quaternary_bufs_sub .., quaternary_bufs_sub ..⟩

/-- The operations that give the codes looked up. -/
abbrev ops2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S2048, .i32⟩) (broadcastInDim S2048 ![] bcast_S_S2048),
    StableHlo.TRef.binary (.of main_v8 : StableHlo.TRef sig ⟨S2048, .i32⟩) (.of main_call2_v0 : StableHlo.TRef sig ⟨S2048, .i32⟩) (.of main_call2_v1 : StableHlo.TRef sig ⟨S2048, .i1⟩) (cmpi .slt),
    StableHlo.TRef.nullary (.of main_call2_c_0 : StableHlo.TRef sig ⟨S_, .i32⟩) (constantI S_ 32 1024#32),
    StableHlo.TRef.unary (.of main_call2_c_0 : StableHlo.TRef sig ⟨S_, .i32⟩) (.of main_call2_v2 : StableHlo.TRef sig ⟨S2048, .i32⟩) (broadcastInDim S2048 ![] bcast_S_S2048),
    StableHlo.TRef.binary (.of main_v8 : StableHlo.TRef sig ⟨S2048, .i32⟩) (.of main_call2_v2 : StableHlo.TRef sig ⟨S2048, .i32⟩) (.of main_call2_v3 : StableHlo.TRef sig ⟨S2048, .i32⟩) addi,
    StableHlo.TRef.ternary (.of main_call2_v1 : StableHlo.TRef sig ⟨S2048, .i1⟩) (.of main_call2_v3 : StableHlo.TRef sig ⟨S2048, .i32⟩) (.of main_v8 : StableHlo.TRef sig ⟨S2048, .i32⟩) (.of main_call2_v4 : StableHlo.TRef sig ⟨S2048, .i32⟩) select,
    StableHlo.TRef.unary (.of main_call2_v4 : StableHlo.TRef sig ⟨S2048, .i32⟩) (.of main_call2_v5 : StableHlo.TRef sig ⟨S2048x1, .i32⟩) (broadcastInDim S2048x1 ![0] bcast_S2048_S2048x1_0),
    StableHlo.TRef.nullary (.of main_call2_c_1 : StableHlo.TRef sig ⟨S1, .i32⟩) (constantI S1 32 1023#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S2048x1, .i32⟩) (broadcastInDim S2048x1 ![] bcast_S_S2048x1),
    StableHlo.TRef.binary (.of main_call2_v5 : StableHlo.TRef sig ⟨S2048x1, .i32⟩) (.of main_call2_v6 : StableHlo.TRef sig ⟨S2048x1, .i32⟩) (.of main_call2_v7 : StableHlo.TRef sig ⟨S2048x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S2048x1, .i32⟩) (broadcastInDim S2048x1 ![0, 1] bcast_S1x1_S2048x1_0_1),
    StableHlo.TRef.binary (.of main_call2_v5 : StableHlo.TRef sig ⟨S2048x1, .i32⟩) (.of main_call2_v9 : StableHlo.TRef sig ⟨S2048x1, .i32⟩) (.of main_call2_v10 : StableHlo.TRef sig ⟨S2048x1, .i1⟩) (cmpi .sle),
    StableHlo.TRef.binary (.of main_call2_v7 : StableHlo.TRef sig ⟨S2048x1, .i1⟩) (.of main_call2_v10 : StableHlo.TRef sig ⟨S2048x1, .i1⟩) (.of main_call2_v11 : StableHlo.TRef sig ⟨S2048x1, .i1⟩) andi,
    StableHlo.TRef.nullary (.of main_call2_c_3 : StableHlo.TRef sig ⟨S_, .i1⟩) (constantI S_ 1 1#1),
    StableHlo.TRef.binary (.of main_call2_v11 : StableHlo.TRef sig ⟨S2048x1, .i1⟩) (.of main_call2_c_3 : StableHlo.TRef sig ⟨S_, .i1⟩) (.of main_call2_v12 : StableHlo.TRef sig ⟨S2048, .i1⟩) (fun x v => Host.reduce IntOp.andi x v reducesTo_S2048x1_S2048_d1 h_S_),
    StableHlo.TRef.binary (.of main_arg1 : StableHlo.TRef sig ⟨S1024x32, .f32⟩) (.of main_call2_v5 : StableHlo.TRef sig ⟨S2048x1, .i32⟩) (.of main_call2_v13 : StableHlo.TRef sig ⟨S2048x32, .f32⟩) (fun x i => Host.gather gather_S1024x32_S2048x1_S2048x32_1_0_n_n_0_1_132 x i),
    StableHlo.TRef.unary (.of main_call2_v12 : StableHlo.TRef sig ⟨S2048, .i1⟩) (.of main_call2_v14 : StableHlo.TRef sig ⟨S2048x32, .i1⟩) (broadcastInDim S2048x32 ![0] bcast_S2048_S2048x32_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S2048x32, .f32⟩) (broadcastInDim S2048x32 ![] bcast_S_S2048x32),
    StableHlo.TRef.ternary (.of main_call2_v14 : StableHlo.TRef sig ⟨S2048x32, .i1⟩) (.of main_call2_v13 : StableHlo.TRef sig ⟨S2048x32, .f32⟩) (.of main_call2_v15 : StableHlo.TRef sig ⟨S2048x32, .f32⟩) (.of main_v9 : StableHlo.TRef sig ⟨S2048x32, .f32⟩) select ]

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The operations that give the losses and the output. -/
abbrev ops3 : List (HloOp τ sig (Elt F)) :=
  [ StableHlo.reshape main_v9 main_v10 (rfl : (.f32 : EltTy) = .f32) shapeCasts_S2048x32_S2x32x32x32,
    StableHlo.binary main_v0 main_v10 main_v11 (subf : (⟨S2x32x32x32, .f32⟩ : BufTy).Contents (Elt F) → (⟨S2x32x32x32, .f32⟩ : BufTy).Contents (Elt F) → (⟨S2x32x32x32, .f32⟩ : BufTy).Contents (Elt F)),
    StableHlo.binary main_v10 main_v11 main_v12 (addf : (⟨S2x32x32x32, .f32⟩ : BufTy).Contents (Elt F) → (⟨S2x32x32x32, .f32⟩ : BufTy).Contents (Elt F) → (⟨S2x32x32x32, .f32⟩ : BufTy).Contents (Elt F)),
    StableHlo.binary main_v10 main_v0 main_v13 (subf : (⟨S2x32x32x32, .f32⟩ : BufTy).Contents (Elt F) → (⟨S2x32x32x32, .f32⟩ : BufTy).Contents (Elt F) → (⟨S2x32x32x32, .f32⟩ : BufTy).Contents (Elt F)),
    StableHlo.binary main_v13 main_v13 main_v14 (mulf : (⟨S2x32x32x32, .f32⟩ : BufTy).Contents (Elt F) → (⟨S2x32x32x32, .f32⟩ : BufTy).Contents (Elt F) → (⟨S2x32x32x32, .f32⟩ : BufTy).Contents (Elt F)),
    StableHlo.nullary main_cst (constant S_ .f32 0x00000000#32),
    StableHlo.binary main_v14 main_cst main_v15 ((fun x v => Host.reduceAdd x v reducesTo_S2x32x32x32_S_d0_1_2_3 h_S_) : (⟨S2x32x32x32, .f32⟩ : BufTy).Contents (Elt F) → (⟨S_, .f32⟩ : BufTy).Contents (Elt F) → (⟨S_, .f32⟩ : BufTy).Contents (Elt F)),
    StableHlo.nullary main_cst_0 (constant S_ .f32 0x47800000#32),
    StableHlo.binary main_v15 main_cst_0 main_v16 (Host.divf : (⟨S_, .f32⟩ : BufTy).Contents (Elt F) → (⟨S_, .f32⟩ : BufTy).Contents (Elt F) → (⟨S_, .f32⟩ : BufTy).Contents (Elt F)),
    StableHlo.binary main_v12 main_v0 main_v17 (subf : (⟨S2x32x32x32, .f32⟩ : BufTy).Contents (Elt F) → (⟨S2x32x32x32, .f32⟩ : BufTy).Contents (Elt F) → (⟨S2x32x32x32, .f32⟩ : BufTy).Contents (Elt F)),
    StableHlo.binary main_v17 main_v17 main_v18 (mulf : (⟨S2x32x32x32, .f32⟩ : BufTy).Contents (Elt F) → (⟨S2x32x32x32, .f32⟩ : BufTy).Contents (Elt F) → (⟨S2x32x32x32, .f32⟩ : BufTy).Contents (Elt F)),
    StableHlo.nullary main_cst_1 (constant S_ .f32 0x00000000#32),
    StableHlo.binary main_v18 main_cst_1 main_v19 ((fun x v => Host.reduceAdd x v reducesTo_S2x32x32x32_S_d0_1_2_3 h_S_) : (⟨S2x32x32x32, .f32⟩ : BufTy).Contents (Elt F) → (⟨S_, .f32⟩ : BufTy).Contents (Elt F) → (⟨S_, .f32⟩ : BufTy).Contents (Elt F)),
    StableHlo.nullary main_cst_2 (constant S_ .f32 0x47800000#32),
    StableHlo.binary main_v19 main_cst_2 main_v20 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x3E800000#32),
    StableHlo.binary main_cst_3 main_v16 main_v21 (mulf : (⟨S_, .f32⟩ : BufTy).Contents (Elt F) → (⟨S_, .f32⟩ : BufTy).Contents (Elt F) → (⟨S_, .f32⟩ : BufTy).Contents (Elt F)),
    StableHlo.binary main_v20 main_v21 main_v22 (addf : (⟨S_, .f32⟩ : BufTy).Contents (Elt F) → (⟨S_, .f32⟩ : BufTy).Contents (Elt F) → (⟨S_, .f32⟩ : BufTy).Contents (Elt F)),
    StableHlo.unary main_v12 main_v23 ((transpose S2x32x32x32 [0, 2, 3, 1] · transposes_S2x32x32x32_S2x32x32x32_0_2_3_1) : (⟨S2x32x32x32, .f32⟩ : BufTy).Contents (Elt F) → (⟨S2x32x32x32, .f32⟩ : BufTy).Contents (Elt F)) ]

theorem ops3_sub : (ops3 : List (HloOp τ sig (Elt F))).Forall fun op => op.bufs ⊆ tcRefs τ sig :=
  ⟨reshape_bufs_sub .., binary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., unary_bufs_sub ..⟩

/-- All of them. -/
abbrev ops : List (HloOp τ sig (Elt F)) := ops0 ++ (ops1 ++ (ops2 ++ ops3))

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  rcases List.mem_append.mp h with h | h
  · exact List.forall_iff_forall_mem.mp ops0_sub op h
  rcases List.mem_append.mp h with h | h
  · exact List.forall_iff_forall_mem.mp ops1_sub op h
  rcases List.mem_append.mp h with h | h
  · exact List.forall_iff_forall_mem.mp ops2_sub op h
  · exact List.forall_iff_forall_mem.mp ops3_sub op h

theorem after_two (l₁ l₂ : List (HloOp τ sig (Elt F))) (V : Valuation τ sig (Elt F)) :
    after (l₁ ++ l₂) V = after l₂ (after l₁ V) := by
  induction l₁ generalizing V with
  | nil => rfl
  | cons op l ih => exact ih _

theorem after_ops (V : Valuation τ sig (Elt F)) : after ops V = after ops3 (after ops2 (after ops1 (after ops0 V))) := by
  simp only [ops, after_two]

theorem ops_arg0 (V : Valuation τ sig (Elt F)) : after ops V (main_arg0 : DevRef τ sig) = V (main_arg0 : DevRef τ sig) := by
  rw [after_ops]
  exact (show after ops3 _ (main_arg0 : DevRef τ sig) = _ by after_results).trans <|
    (show after ops2 _ (main_arg0 : DevRef τ sig) = _ by after_results).trans <|
    (show after ops1 _ (main_arg0 : DevRef τ sig) = _ by after_results).trans
    (show after ops0 _ (main_arg0 : DevRef τ sig) = _ by after_results)
theorem ops_arg1 (V : Valuation τ sig (Elt F)) : after ops V (main_arg1 : DevRef τ sig) = V (main_arg1 : DevRef τ sig) := by
  rw [after_ops]
  exact (show after ops3 _ (main_arg1 : DevRef τ sig) = _ by after_results).trans <|
    (show after ops2 _ (main_arg1 : DevRef τ sig) = _ by after_results).trans <|
    (show after ops1 _ (main_arg1 : DevRef τ sig) = _ by after_results).trans
    (show after ops0 _ (main_arg1 : DevRef τ sig) = _ by after_results)

/-- Every run of the reference ends with each array at what the operations, in order, leave in it. -/
theorem run_ops (m : (ℓ : Loc nD τ sig) → Buf (Elt F) ℓ) (ρ : Dev nD → PrngReg) :
    θ_run defs (onTc (τ := τ) (main (F := F))) ⟨m, fun _ => 0, ρ⟩ fun r =>
      ∀ c : Dev nD, ∀ b : Ref sig .tc, r.2.mem ((c.tc : Thread nD τ).loc b) = after ops (fun b => m (c, b)) (Proc.devRef .tc b) :=
  run_seq scopedRefs_eq scopedSems_eq defs main (fun _ => ops) main_eq (fun _ => ops_sub) m ρ

/-- The reference has no semaphore at all, so every memory's counters are at zero. -/
theorem sems_zero (s : MemSt nD τ sig (Elt F)) : s.sem = fun _ => 0 := by
  funext x
  obtain ⟨t, sm⟩ := x
  cases sm with
  | reg s => exact s.elim0
  | dma s => exact s.elim0

/-- The reference ends, leaves its arguments and has every counter at zero. -/
theorem frame_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun _ h => ⟨fun c => ⟨(h c main_arg0).trans (ops_arg0 _), (h c main_arg1).trans (ops_arg1 _)⟩, sems_zero _⟩)
    (run_ops m ρ)

end Cert.ReferenceIdeal.Own

end
-- ==== Proof.Vals.Nearest.lean ====
/- Facts about real numbers and words that both programs' values rest on: the first place of a least value, and sums over the reals. -/
module

public import Idealize.ShloMosaic.PureOps.Ideal.Laws
public import Idealize.ShloMosaic.PureOps.Reduce
public import Idealize.ShloMosaic.Lib.Pointwise

@[expose] public section

set_option maxRecDepth 16384

noncomputable section

namespace Cert.Own

open Idealize.ShloMosaic

/-! ## The first place of a least value -/

/-- `k` is the first place at which `f` is least. -/
def IsFirst {n : ℕ} {α : Type} [LinearOrder α] (f : Fin n → α) (k : Fin n) : Prop := (∀ j, f k ≤ f j) ∧ ∀ j, j < k → f k < f j

theorem IsFirst.unique {n : ℕ} {α : Type} [LinearOrder α] {f : Fin n → α} {k l : Fin n} (hk : IsFirst f k) (hl : IsFirst f l) : k = l := by
  rcases lt_trichotomy k l with h | h | h
  · exact absurd (hl.2 k h) (not_lt.mpr (hk.1 l))
  · exact h
  · exact absurd (hk.2 l h) (not_lt.mpr (hl.1 k))

theorem exists_isFirst {n : ℕ} {α : Type} [LinearOrder α] (f : Fin (n + 1) → α) : ∃ k, IsFirst f k := by
  classical
  obtain ⟨m, hm⟩ := Finite.exists_min f
  have hne : (Finset.univ.filter fun k => ∀ j, f k ≤ f j).Nonempty := ⟨m, by simpa using hm⟩
  refine ⟨(Finset.univ.filter fun k => ∀ j, f k ≤ f j).min' hne, ?_, ?_⟩
  · have := Finset.min'_mem _ hne
    simpa using this
  · intro j hj
    by_contra hcon
    have hmem := Finset.min'_mem _ hne
    have hle : ∀ i, f ((Finset.univ.filter fun k => ∀ j, f k ≤ f j).min' hne) ≤ f i := by simpa using hmem
    have : j ∈ Finset.univ.filter fun k => ∀ j, f k ≤ f j := by
      simpa using fun i => (not_lt.mp hcon).trans (hle i)
    exact absurd (Finset.min'_le _ j this) (not_le.mpr hj)

/-- A first least place stays one under a map that keeps the strict order on the values. -/
theorem IsFirst.map {n : ℕ} {α β : Type} [LinearOrder α] [LinearOrder β] {f : Fin n → α} {k : Fin n} (h : IsFirst f k)
    (g : Fin n → β) (hg : ∀ i j, f i < f j ↔ g i < g j) : IsFirst g k :=
  ⟨fun j => not_lt.mp fun hlt => absurd ((hg _ _).mpr hlt) (not_lt.mpr (h.1 j)), fun j hj => (hg _ _).mp (h.2 j hj)⟩

theorem ofBits_inf : Ideal.ofBits .f32 0x7F800000#32 = ⊤ := by
  simp [Ideal.ofBits, Ideal.ieee]

/-- The minimum over a row is the value at a least place. -/
theorem fold_min_eq {n : ℕ} (f : Fin n → EReal) (k : Fin n) (h : ∀ j, f k ≤ f j) :
    Finset.univ.fold min (Ideal.ofBits .f32 0x7F800000#32) f = f k := by
  rw [ofBits_inf]
  refine le_antisymm ?_ ?_
  · exact (Finset.fold_min_le _).mpr (Or.inr ⟨k, Finset.mem_univ _, le_rfl⟩)
  · exact (Finset.le_fold_min _).mpr ⟨le_top, fun j _ => h j⟩

theorem minsi_toInt (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

theorem toInt_ofNat_small (k : ℕ) (h : k < 2 ^ 31) : (BitVec.ofNat 32 k).toInt = k := by
  have hn : (BitVec.ofNat 32 k).toNat = k := by rw [BitVec.toNat_ofNat]; exact Nat.mod_eq_of_lt (by omega)
  rw [BitVec.toInt_eq_toNat_of_lt (by rw [hn]; omega), hn]

/-- The least of the indices at which a row attains its minimum is the first such index. -/
theorem fold_minsi_first (f : Fin 1024 → EReal) (k : Fin 1024) (h : IsFirst f k) :
    Finset.univ.fold IntOp.minsi 2147483647#32 (fun x : Fin 1024 => if f x = f k then BitVec.ofNat 32 x.val else 1024#32)
      = BitVec.ofNat 32 k.val := by
  apply BitVec.eq_of_toInt_eq
  have hh := Finset.fold_hom (op := IntOp.minsi (w := 32)) (op' := (min : ℤ → ℤ → ℤ)) (m := BitVec.toInt) (b := 2147483647#32)
    (f := fun x : Fin 1024 => if f x = f k then BitVec.ofNat 32 x.val else 1024#32) (s := Finset.univ) minsi_toInt
  rw [← hh, toInt_ofNat_small k.val (by have := k.isLt; omega)]
  refine le_antisymm ?_ ?_
  · refine (Finset.fold_min_le _).mpr (Or.inr ⟨k, Finset.mem_univ _, ?_⟩)
    rw [if_pos rfl, toInt_ofNat_small k.val (by have := k.isLt; omega)]
  · refine (Finset.le_fold_min _).mpr ⟨by have := k.isLt; simp; omega, fun j _ => ?_⟩
    split_ifs with hj
    · rw [toInt_ofNat_small j.val (by have := j.isLt; omega)]
      have : ¬ j < k := fun hlt => absurd (h.2 j hlt) (by rw [hj]; exact lt_irrefl _)
      have := not_lt.mp this
      exact_mod_cast this
    · have := k.isLt
      simp

/-- The word that a clamp to `0 … 1023` leaves is one of the places. -/
theorem clamp_word (x : BitVec 32) : ∃ j : Fin 1024, IntOp.minsi 1023#32 (IntOp.maxsi 0#32 x) = BitVec.ofNat 32 j.val := by
  have hmax : (IntOp.maxsi 0#32 x).toInt = max 0 x.toInt := by
    unfold IntOp.maxsi
    by_cases h : x.toInt < 0
    · rw [if_pos (by simpa [BitVec.slt] using h), max_eq_left h.le]; rfl
    · rw [if_neg (by simpa [BitVec.slt] using h), max_eq_right (not_lt.mp h)]
  have h1 : (IntOp.minsi 1023#32 (IntOp.maxsi 0#32 x)).toInt = min 1023 (max 0 x.toInt) := by
    rw [minsi_toInt, hmax]; rfl
  have hlo : 0 ≤ min 1023 (max 0 x.toInt) := le_min (by norm_num) (le_max_left _ _)
  have hhi : min 1023 (max 0 x.toInt) ≤ 1023 := min_le_left _ _
  refine ⟨⟨(min 1023 (max 0 x.toInt)).toNat, by omega⟩, ?_⟩
  apply BitVec.eq_of_toInt_eq
  rw [h1, toInt_ofNat_small _ (by show (min 1023 (max 0 x.toInt)).toNat < 2 ^ 31; omega)]
  show _ = ((min 1023 (max 0 x.toInt)).toNat : ℤ)
  omega

/-- A second candidate is not taken over the first least place: it is nowhere less, and where it is equal it does not come first. -/
theorem keep_first (f : Fin 1024 → EReal) (k j : Fin 1024) (h : IsFirst f k) :
    Scalar.select (IntOp.ori (BitVec.ofBool (decide (f j < f k)))
      (IntOp.andi (BitVec.ofBool (decide (f j = f k))) (IntOp.cmpi .slt (BitVec.ofNat 32 j.val) (BitVec.ofNat 32 k.val))))
      (BitVec.ofNat 32 j.val) (BitVec.ofNat 32 k.val) = BitVec.ofNat 32 k.val := by
  rw [decide_eq_false (not_lt.mpr (h.1 j))]
  by_cases he : f j = f k
  · have hkj : k ≤ j := not_lt.mp fun hlt => absurd (h.2 j hlt) (by rw [he]; exact lt_irrefl _)
    have hs : IntOp.cmpi .slt (BitVec.ofNat 32 j.val) (BitVec.ofNat 32 k.val) = 0#1 := by
      have : BitVec.slt (BitVec.ofNat 32 j.val) (BitVec.ofNat 32 k.val) = false := by
        rw [BitVec.slt, toInt_ofNat_small j.val (by have := j.isLt; omega), toInt_ofNat_small k.val (by have := k.isLt; omega)]
        exact decide_eq_false (not_lt.mpr (by exact_mod_cast hkj))
      simp only [IntOp.cmpi, this]; rfl
    rw [hs, decide_eq_true he]; rfl
  · rw [decide_eq_false he]
    generalize IntOp.cmpi .slt _ _ = b
    have : IntOp.ori (BitVec.ofBool false) (IntOp.andi (BitVec.ofBool false) b) = 0#1 := by
      simp [IntOp.ori, IntOp.andi]
    rw [this]; rfl

/-! ## Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum that picks one entry by comparing words. -/
theorem sum_pick (a : Fin 1024 → ℝ) (k : Fin 1024) :
    (∑ x : Fin 1024, (a x : EReal) * FloatOps.sitofp (F := Ideal) .f32
      (BitVec.setWidth 32 (IntOp.cmpi .eq (BitVec.ofNat 32 x.val) (BitVec.ofNat 32 k.val)))) = (a k : EReal) := by
  rw [Finset.sum_eq_single k]
  · rw [show IntOp.cmpi .eq (BitVec.ofNat 32 k.val) (BitVec.ofNat 32 k.val) = 1#1 by simp [IntOp.cmpi]]
    show (a k : EReal) * (((1 : ℤ) : ℝ) : EReal) = _
    simp
  · intro x _ hx
    have hne : (BitVec.ofNat 32 x.val == BitVec.ofNat 32 k.val) = false := by
      rw [beq_eq_false_iff_ne]
      intro he
      apply hx
      have := congrArg BitVec.toInt he
      rw [toInt_ofNat_small _ (by have := x.isLt; omega), toInt_ofNat_small k.val (by have := k.isLt; omega)] at this
      exact Fin.ext (by exact_mod_cast this)
    rw [show IntOp.cmpi .eq (BitVec.ofNat 32 x.val) (BitVec.ofNat 32 k.val) = 0#1 by simp [IntOp.cmpi, hne]]
    show (a x : EReal) * (((0 : ℤ) : ℝ) : EReal) = 0
    simp
  · intro h; exact absurd (Finset.mem_univ k) h

/-- Thirty-two terms added in four groups of eight, each by halves. -/
theorem sum_groups (q : Fin 32 → ℝ) :
    ((q 0 : EReal) + q 4 + (q 2 + q 6) + (q 1 + q 5 + (q 3 + q 7))
      + (q 8 + q 12 + (q 10 + q 14) + (q 9 + q 13 + (q 11 + q 15)))
      + (q 16 + q 20 + (q 18 + q 22) + (q 17 + q 21 + (q 19 + q 23)))
      + (q 24 + q 28 + (q 26 + q 30) + (q 25 + q 29 + (q 27 + q 31))) : EReal)
    = ((∑ i, q i : ℝ) : EReal) := by
  simp only [← EReal.coe_add]
  congr 1
  simp only [Fin.sum_univ_succ, Finset.univ_eq_empty, Finset.sum_empty, Fin.reduceSucc, Fin.isValue, Fin.succ_zero_eq_one]
  simp
  ring

theorem sqrt_coe_nonneg (r : ℝ) (h : 0 ≤ r) : Ideal.sqrt (r : EReal) = ((Real.sqrt r : ℝ) : EReal) := by
  rw [Ideal.sqrt_coe, if_neg (not_lt.mpr h)]

theorem sqrt_lt_sqrt_coe (a b : ℝ) (ha : 0 ≤ a) (hb : 0 ≤ b) : Ideal.sqrt (a : EReal) < Ideal.sqrt (b : EReal) ↔ a < b := by
  rw [sqrt_coe_nonneg a ha, sqrt_coe_nonneg b hb, EReal.coe_lt_coe_iff, Real.sqrt_lt_sqrt_iff ha]

/-! ## Distances -/

/-- The squared distance of two rows. -/
def dsq (u w : Fin 32 → ℝ) : ℝ := ∑ i, (u i - w i) * (u i - w i)

theorem dsq_nonneg (u w : Fin 32 → ℝ) : 0 ≤ dsq u w := Finset.sum_nonneg fun i _ => mul_self_nonneg _

/-- The part of the squared distance that depends on the code. -/
def score (u w : Fin 32 → ℝ) : ℝ := (∑ i, w i * w i) - 2 * ∑ i, u i * w i

theorem dsq_eq (u w : Fin 32 → ℝ) : dsq u w = (∑ i, u i * u i) + score u w := by
  unfold dsq score
  rw [Finset.mul_sum, ← Finset.sum_sub_distrib, ← Finset.sum_add_distrib]
  exact Finset.sum_congr rfl fun i _ => by ring

/-- The nearest of the codes `w 0`, `w 1`, …, the first one among equals. -/
def Nearest (u : Fin 32 → ℝ) (w : Fin 1024 → Fin 32 → ℝ) (k : Fin 1024) : Prop := IsFirst (fun k => dsq u (w k)) k

theorem exists_nearest (u : Fin 32 → ℝ) (w : Fin 1024 → Fin 32 → ℝ) : ∃ k, Nearest u w k := exists_isFirst _

/-- The index of the nearest code. -/
def near (u : Fin 32 → ℝ) (w : Fin 1024 → Fin 32 → ℝ) : Fin 1024 := (exists_nearest u w).choose

theorem near_spec (u : Fin 32 → ℝ) (w : Fin 1024 → Fin 32 → ℝ) : Nearest u w (near u w) := (exists_nearest u w).choose_spec

theorem near_score (u : Fin 32 → ℝ) (w : Fin 1024 → Fin 32 → ℝ) : IsFirst (fun k => ((score u (w k) : ℝ) : EReal)) (near u w) :=
  (near_spec u w).map _ fun i j => by
    show dsq u (w i) < dsq u (w j) ↔ _
    rw [dsq_eq, dsq_eq, EReal.coe_lt_coe_iff]; exact add_lt_add_iff_left _

theorem near_dist (u : Fin 32 → ℝ) (w : Fin 1024 → Fin 32 → ℝ) :
    IsFirst (fun k => Ideal.sqrt ((dsq u (w k) : ℝ) : EReal)) (near u w) :=
  (near_spec u w).map _ fun i j => (sqrt_lt_sqrt_coe _ _ (dsq_nonneg _ _) (dsq_nonneg _ _)).symm

end Cert.Own

end
-- ==== Proof.Vals.ScoreVal.lean ====
/- What the first kernel's body computes over the reals, for rows and codes of numbers: each row's nearest code and its distance. -/
module

public import proofs.«01_k».proof.Proof.Ideal.ScoreBody
public import proofs.«01_k».proof.Proof.Vals.Nearest

@[expose] public section

set_option maxRecDepth 16384

noncomputable section

namespace Cert.KernelIdeal.Own

open Cert.KernelIdeal Cert.KernelIdeal.Gen Cert.Own
open Idealize.ShloMosaic Idealize.ShloMosaic.TcCoe

section

variable (z : FVec Ideal S1024x32 .f32) (zt et : FVec Ideal S32x1024 .f32) (u : Fin 1024 → Fin 32 → ℝ) (w : Fin 1024 → Fin 32 → ℝ)

theorem ofBits_two : Ideal.ofBits .f32 0x40000000#32 = ((2 : ℝ) : EReal) := by
  simp [Ideal.ofBits, Ideal.ieee, -EReal.coe_mul]; norm_num

/-- The score of row `r` at code `k`. -/
theorem score_apply (hz : ∀ r i, z (ix2 r i) = (u r i : EReal)) (het : ∀ i k, et (ix2 i k) = (w k i : EReal)) (r k : Fin 1024) :
    k0_pay8 (F := Ideal) z et (k0_pay3 (F := Ideal) et) (ix2 r k) = ((score (u r) (w k) : ℝ) : EReal) := by
  pointwise [k0_pay8, k0_pay3, k0_pay7, hz, het]
  rw [ofBits_two]
  simp only [← EReal.coe_mul, ← coe_sum, ← EReal.coe_sub]
  rfl

/-- The least score of row `r`. -/
theorem least_apply (hz : ∀ r i, z (ix2 r i) = (u r i : EReal)) (het : ∀ i k, et (ix2 i k) = (w k i : EReal)) (r : Fin 1024) :
    k0_pay9 (F := Ideal) z et (k0_pay3 (F := Ideal) et) (Idealize.ShloMosaic.ix1 r) = ((score (u r) (w (near (u r) w)) : ℝ) : EReal) := by
  pointwise [k0_pay9]
  simp only [score_apply z et u w hz het]
  exact fold_min_eq _ _ (near_score (u r) w).1

/-- The first code at which row `r` has its least score. -/
theorem first_apply (hz : ∀ r i, z (ix2 r i) = (u r i : EReal)) (het : ∀ i k, et (ix2 i k) = (w k i : EReal)) (r : Fin 1024) :
    k0_pay12 (F := Ideal) z et (k0_pay3 (F := Ideal) et) (Idealize.ShloMosaic.ix1 r) = BitVec.ofNat 32 (near (u r) w).val := by
  pointwise [k0_pay12, k0_pay9]
  simp only [score_apply z et u w hz het]
  rw [fold_min_eq _ _ (near_score (u r) w).1]
  exact fold_minsi_first _ _ (near_score (u r) w)

/-- The second candidate is one of the codes. -/
theorem second_apply (a b : IVec S1024 32) (c : IVec S1024 1) (r : Fin 1024) :
    ∃ j : Fin 1024, k0_pay16 a b c (Idealize.ShloMosaic.ix1 r) = BitVec.ofNat 32 j.val := by
  pointwise [k0_pay16]
  exact clamp_word _

/-- The squared differences of row `r` from the code its word names. -/
theorem diff_apply (hzt : ∀ i r, zt (ix2 i r) = (u r i : EReal)) (het : ∀ i k, et (ix2 i k) = (w k i : EReal))
    (a : IVec S1024 32) (r k : Fin 1024) (ha : a (Idealize.ShloMosaic.ix1 r) = BitVec.ofNat 32 k.val) (i : Fin 32) :
    k0_pay20 (F := Ideal) a zt et (ix2 i r) = (((u r i - w k i) * (u r i - w k i) : ℝ) : EReal) := by
  pointwise [k0_pay20, k0_pay18, hzt, het, ha]
  rw [sum_pick (fun x => w x i) k, ← EReal.coe_sub, ← EReal.coe_mul]

/-- The same for the second candidate, which the body computes from its own words. -/
theorem diff2_apply (hzt : ∀ i r, zt (ix2 i r) = (u r i : EReal)) (het : ∀ i k, et (ix2 i k) = (w k i : EReal))
    (a b : IVec S1024 32) (c : IVec S1024 1) (r k : Fin 1024) (ha : k0_pay16 a b c (Idealize.ShloMosaic.ix1 r) = BitVec.ofNat 32 k.val) (i : Fin 32) :
    k0_pay26 (F := Ideal) (k0_pay18 (F := Ideal) zt) (k0_pay19 (F := Ideal) a b c et) (ix2 i r)
      = (((u r i - w k i) * (u r i - w k i) : ℝ) : EReal) := by
  pointwise [k0_pay26, k0_pay19, k0_pay18, hzt, het, ha]
  rw [sum_pick (fun x => w x i) k, ← EReal.coe_sub, ← EReal.coe_mul]

/-- The distance of row `r` from the code its word names. -/
theorem dist_apply (hzt : ∀ i r, zt (ix2 i r) = (u r i : EReal)) (het : ∀ i k, et (ix2 i k) = (w k i : EReal))
    (a : IVec S1024 32) (r k : Fin 1024) (ha : a (Idealize.ShloMosaic.ix1 r) = BitVec.ofNat 32 k.val) :
    k0_pay25 (F := Ideal) (k0_pay20 (F := Ideal) a zt et) (k0_pay21 (F := Ideal) a zt et) (k0_pay23 (F := Ideal) a zt et)
      (k0_pay24 (F := Ideal) a zt et) (Idealize.ShloMosaic.ix1 r) = Ideal.sqrt ((dsq (u r) (w k) : ℝ) : EReal) := by
  pointwise [k0_pay25, k0_pay21, k0_pay22, k0_pay23, k0_pay24]
  simp only [diff_apply zt et u w hzt het a r k ha]
  exact congrArg _ (sum_groups fun i => (u r i - w k i) * (u r i - w k i))

/-- The second candidate is never taken: it is nowhere nearer, and where it is as near it does not come first. -/
theorem index_apply (hz : ∀ r i, z (ix2 r i) = (u r i : EReal)) (hzt : ∀ i r, zt (ix2 i r) = (u r i : EReal))
    (het : ∀ i k, et (ix2 i k) = (w k i : EReal)) (r : Fin 1024) :
    scIdx (F := Ideal) z zt et (scE2 (F := Ideal) et) (ix3 0 0 r) = BitVec.ofNat 32 (near (u r) w).val := by
  unfold scIdx scE2
  have h1 := first_apply z et u w hz het r
  obtain ⟨j, hj⟩ := second_apply (k0_pay12 (F := Ideal) z et (k0_pay3 (F := Ideal) et)) (k0_pay13 (F := Ideal) z et (k0_pay3 (F := Ideal) et))
    (k0_pay15 (F := Ideal) z et (k0_pay3 (F := Ideal) et)) r
  have hd := dist_apply zt et u w hzt het _ r _ h1
  have h2 := diff2_apply zt et u w hzt het _ _ _ r j hj
  generalize k0_pay25 (F := Ideal) _ _ _ _ = E at hd ⊢
  pointwise [k0_pay29, k0_pay27, k0_pay28]
  simp only [h2, hd, hj, h1]
  have hs := sum_groups fun i => (u r i - w j i) * (u r i - w j i)
  beta_reduce at hs
  rw [hs]
  exact keep_first (fun k => Ideal.sqrt ((dsq (u r) (w k) : ℝ) : EReal)) (near (u r) w) j (near_dist (u r) w)

/-- The copy is the rows themselves. -/
theorem out_apply : scOut (F := Ideal) z = z := by
  funext i
  pointwise [scOut, k0_pay7]

/-- The running sum gains the sum of the rows' least squared distances. -/
theorem acc_apply (hz : ∀ r i, z (ix2 r i) = (u r i : EReal)) (het : ∀ i k, et (ix2 i k) = (w k i : EReal)) (acc : FVec Ideal S1x1 .f32) :
    scAcc (F := Ideal) z et (scE2 (F := Ideal) et) acc (ix2 0 0)
      = acc (ix2 0 0) + ((∑ r, dsq (u r) (w (near (u r) w)) : ℝ) : EReal) := by
  unfold scAcc scE2
  have hl := least_apply z et u w hz het
  generalize k0_pay9 (F := Ideal) _ _ _ = L at hl ⊢
  pointwise [k0_pay2, k0_pay10, k0_pay7, hz, hl]
  simp only [← EReal.coe_mul, ← coe_sum, ← EReal.coe_add, dsq_eq]

end

end Cert.KernelIdeal.Own

end
-- ==== Proof.Vals.ScoreArr.lean ====
/- What the first kernel leaves in its arrays: the provisional codes, the copied rows and the summed squared distance. -/
module

public import proofs.«01_k».proof.Proof.Ideal.ScoreRegion
public import proofs.«01_k».proof.Proof.Vals.ScoreVal
public import Idealize.ShloMosaic.Lib.Pipeline.ValueKit

@[expose] public section

set_option maxRecDepth 16384

noncomputable section

namespace Cert.KernelIdeal.Own

open Cert.KernelIdeal Cert.KernelIdeal.Gen Cert.Own
open Idealize.ShloMosaic Idealize.ShloMosaic.TcCoe Idealize.SL.Sem
open Idealize.ShloMosaic.Pipeline (Dat)

/-- Where each window's block starts, in blocks. -/
theorem index0 : ∀ t : Fin cfg0.N, win0_0.index t = ![t.val, 0] ∧ win0_1.index t = ![0, t.val] ∧ win0_2.index t = ![0, 0]
    ∧ win0_3.index t = ![t.val, 0, 0] ∧ win0_6.index t = ![t.val, 0] ∧ win0_7.index t = ![0, 0] ∧ t.val < 2 :=
  (by decide +kernel : ∀ t : Fin grid0.N, _)

section

variable (V : (c : Dev nD) → (b : Ref sig .tc) → Buf (Elt Ideal) ((c : Thread nD τ).loc b)) (c : Dev nD)
variable (u : Fin 2048 → Fin 32 → ℝ) (w : Fin 1024 → Fin 32 → ℝ)

/-- Row `r` of the block at point `t`, as a row of the whole array. -/
def rowOf (t : Fin cfg0.N) (r : Fin 1024) : Fin 2048 := ⟨t.val * 1024 + r.val, by have := (index0 t).2.2.2.2.2.2; omega⟩

variable (hz : ∀ n i, (V c main_call0_v1 : FVec Ideal S2048x32 .f32) (ix2 n i) = (u n i : EReal))
  (hzt : ∀ i n, (V c main_call0_v2 : FVec Ideal S32x2048 .f32) (ix2 i n) = (u n i : EReal))
  (het : ∀ i k, (V c main_call0_v3 : FVec Ideal S32x1024 .f32) (ix2 i k) = (w k i : EReal))

include hz in
theorem blk0_0 (t : Fin cfg0.N) (r : Fin 1024) (i : Fin 32) :
    (sblk V c 0 t : FVec Ideal S1024x32 .f32) (ix2 r i) = (u (rowOf t r) i : EReal) := by
  rw [← hz]
  have h := index0 t
  blk_ext [sblk, rowOf, index0 t]

include hzt in
theorem blk0_1 (t : Fin cfg0.N) (i : Fin 32) (r : Fin 1024) :
    (sblk V c 1 t : FVec Ideal S32x1024 .f32) (ix2 i r) = (u (rowOf t r) i : EReal) := by
  rw [← hzt]
  have h := index0 t
  blk_ext [sblk, rowOf, index0 t]

include het in
theorem blk0_2 (t : Fin cfg0.N) (i : Fin 32) (k : Fin 1024) :
    (sblk V c 2 t : FVec Ideal S32x1024 .f32) (ix2 i k) = (w k i : EReal) := by
  rw [← het]
  have h := index0 t
  blk_ext [sblk, index0 t]

theorem blk0_2_const (t : Fin cfg0.N) : sblk V c 2 t = sblk V c 2 t0_0 := by
  funext y
  blk_ext [sblk, index0 t, index0 t0_0]

/-- The row of the whole array an entry of the codes' array stands for. -/
def rowAtIdx (j : S2x1x1024.Idx) : Fin 2048 :=
  ⟨(j 0).val * 1024 + (j 2).val, by have h0 : (j 0).val < 2 := (j 0).isLt; have h2 : (j 2).val < 1024 := (j 2).isLt; omega⟩

include hz hzt het in
/-- The provisional codes' array. -/
theorem codes_arr : (dat0 V c).arrAt 3 cfg0.N = (fun j : S2x1x1024.Idx => BitVec.ofNat 32 (near (u (rowAtIdx j)) w).val) := by
  refine (dat0 V c).arrAt_eq_of_covers 3 _ (by decide +kernel) fun t _ y => ?_
  blk_simp
  rw [after0_3]
  have h := index_apply (sblk V c 0 t) (sblk V c 1 t) (sblk V c 2 t) (fun r => u (rowOf t r)) w (blk0_0 V c u hz t) (blk0_1 V c u hzt t) (blk0_2 V c w het t)
  rw [rE2, ← blk0_2_const V c t]
  idx_vars y
  obtain rfl : y0 = 0 := Subsingleton.elim _ _
  obtain rfl : y1 = 0 := Subsingleton.elim _ _
  refine (h y2).trans (congrArg (fun n => BitVec.ofNat 32 (near (u n) w).val) (Fin.ext ?_))
  simp only [rowAtIdx, rowOf]
  blk_simp [index0 t] <;> (try omega)

/-- The copied rows' array. -/
theorem copy_arr : (dat0 V c).arrAt 6 cfg0.N = (V c main_call0_v1 : FVec Ideal S2048x32 .f32) := by
  refine (dat0 V c).arrAt_eq_of_covers 6 _ (by decide +kernel) fun t _ y => ?_
  blk_simp
  rw [after0_6, out_apply]
  have h := index0 t
  blk_ext [sblk, index0 t]

include hz het in
/-- The summed squared distance. -/
theorem loss_arr (j : S1x1.Idx) : ((dat0 V c).arrAt 7 cfg0.N : FVec Ideal S1x1 .f32) j
    = ((∑ n : Fin 2048, dsq (u n) (w (near (u n) w)) : ℝ) : EReal) := by
  have H : (dat0 V c).arrAt 7 cfg0.N = (rAcc V c t0_1 : FVec Ideal S1x1 .f32) := by
    refine (dat0 V c).arrAt_eq_of_after_last 7 t0_1 (by decide +kernel) _ fun y => ?_
    blk_simp
    rw [after0_7]
    try blk_ext [index0 t0_1]
  rw [H]
  have hj : j = ix2 0 0 := by funext a; fin_cases a <;> exact Subsingleton.elim (α := Fin 1) _ _
  rw [hj, rAcc, if_neg (by decide)]
  unfold rE2
  rw [blk0_2_const V c t0_1]
  have h0 := acc_apply (sblk V c 0 t0_0) (sblk V c 2 t0_0) (fun r => u (rowOf t0_0 r)) w (blk0_0 V c u hz t0_0) (blk0_2 V c w het t0_0)
  have h1 := acc_apply (sblk V c 0 t0_1) (sblk V c 2 t0_0) (fun r => u (rowOf t0_1 r)) w (blk0_0 V c u hz t0_1) (blk0_2 V c w het t0_0)
  rw [h1, h0]
  have e : (k0_pay4 (F := Ideal)) (ix2 0 0) = ((0 : ℝ) : EReal) := by
    pointwise [k0_pay4]
    exact EReal.coe_zero.symm
  rw [e, ← EReal.coe_add, ← EReal.coe_add, zero_add]
  refine congrArg _ ((Fin.sum_univ_add (a := 1024) (b := 1024) fun n => dsq (u n) (w (near (u n) w))).trans ?_).symm
  refine congrArg₂ _ (Finset.sum_congr rfl fun r _ => ?_) (Finset.sum_congr rfl fun r _ => ?_)
  · have : Fin.castAdd 1024 r = rowOf t0_0 r := Fin.ext (by show r.val = 0 * 1024 + r.val; omega)
    rw [this]
  · have : Fin.natAdd 1024 r = rowOf t0_1 r := Fin.ext (by show 1024 + r.val = 1 * 1024 + r.val; omega)
    rw [this]

end

end Cert.KernelIdeal.Own

end
-- ==== Proof.Vals.PatchVal.lean ====
/- What the second kernel's groups compute over the reals: the nearest code again. -/
module

public import proofs.«01_k».proof.Proof.Ideal.PatchGroups
public import proofs.«01_k».proof.Proof.Vals.Nearest

@[expose] public section

set_option maxRecDepth 16384

noncomputable section

namespace Cert.KernelIdeal.Own

open Cert.KernelIdeal Cert.KernelIdeal.Gen Cert.Own
open Idealize.ShloMosaic Idealize.ShloMosaic.TcCoe

section

variable (z : FVec Ideal S2048x32 .f32) (et : FVec Ideal S32x1024 .f32) (u : Fin 2048 → Fin 32 → ℝ) (w : Fin 1024 → Fin 32 → ℝ)

theorem rowAt_apply (n : Fin 2048) (q : Fin 1) (i : Fin 32) : rowAt (F := Ideal) z n (ix2 q i) = z (ix2 n i) := by
  obtain rfl : q = 0 := Subsingleton.elim _ _
  refine congrArg z (funext fun a => Fin.ext ?_)
  fin_cases a
  · show n.val + 1 * 0 = n.val; omega
  · show 0 + 1 * i.val = i.val; omega

/-- Row `r` of a group is the row of the latents it was loaded from. -/
theorem grpRows_apply (rows : Fin 8 → Fin 2048) (r : Fin 8) (i : Fin 32) :
    grpRows (F := Ideal) z rows (ix2 r i) = z (ix2 (rows r) i) := by
  pointwise [grpRows, k1_pay10, rowAt_apply]
  fin_cases r <;> rfl

variable (hz : ∀ n i, z (ix2 n i) = (u n i : EReal)) (het : ∀ i k, et (ix2 i k) = (w k i : EReal))

include hz het in
theorem grpDist_apply (rows : Fin 8 → Fin 2048) (r : Fin 8) (k : Fin 1024) :
    k1_pay12 (F := Ideal) (grpRows (F := Ideal) z rows) (k1_pay11 (F := Ideal) et) (ix2 r k)
      = Ideal.sqrt ((dsq (u (rows r)) (w k) : ℝ) : EReal) := by
  have h := grpRows_apply z rows r
  generalize grpRows (F := Ideal) z rows = Z at h ⊢
  pointwise [k1_pay12, k1_pay11, h, hz, het]
  simp only [← EReal.coe_sub, ← EReal.coe_mul]
  exact congrArg _ (sum_groups fun i => (u (rows r) i - w k i) * (u (rows r) i - w k i))

include hz het in
/-- The code a group computes for a row is the row's nearest. -/
theorem grpIdx_apply (rows : Fin 8 → Fin 2048) (r : Fin 8) :
    grpIdx (F := Ideal) z et rows (colIdx r) = BitVec.ofNat 32 (near (u (rows r)) w).val := by
  have hc : colIdx r = ix2 r 0 := by
    funext a; fin_cases a <;> rfl
  rw [hc]
  have h := grpDist_apply z et u w hz het rows r
  unfold grpIdx
  pointwise [k1_pay19, k1_pay13]
  simp only [h]
  rw [fold_min_eq _ _ (near_dist (u (rows r)) w).1]
  exact fold_minsi_first _ _ (near_dist (u (rows r)) w)

include hz het in
/-- If the provisional codes are the nearest ones then so is the output. -/
theorem good_near (prov f : Vec Ideal S2048x1 .i32) (hp : ∀ n : Fin 2048, prov (ix2 n 0) = BitVec.ofNat 32 (near (u n) w).val)
    (hf : Good (F := Ideal) z et prov f) (n : Fin 2048) : f (ix2 n 0) = BitVec.ofNat 32 (near (u n) w).val := by
  rcases hf (ix2 n 0) with h | ⟨rows, r, hr, h⟩
  · rw [h, hp]
  · rw [h, grpIdx_apply z et u w hz het]
    have : rows r = n := Fin.ext hr
    rw [this]

end

end Cert.KernelIdeal.Own

end
-- ==== Proof.Vals.PatchArr.lean ====
/- What the second kernel leaves in its array: the nearest code of every row, if it was handed the nearest codes. -/
module

public import proofs.«01_k».proof.Proof.Ideal.PatchRegion
public import proofs.«01_k».proof.Proof.Vals.PatchVal
public import Idealize.ShloMosaic.Lib.Pipeline.ArrRel
public import Idealize.ShloMosaic.Lib.Pipeline.ValueKit

@[expose] public section

set_option maxRecDepth 16384

noncomputable section

namespace Cert.KernelIdeal.Own

open Cert.KernelIdeal Cert.KernelIdeal.Gen Cert.Own
open Idealize.ShloMosaic Idealize.ShloMosaic.TcCoe Idealize.SL.Sem
open Idealize.ShloMosaic.Pipeline (Dat)

section

variable (V : (c : Dev nD) → (b : Ref sig .tc) → Buf (Elt Ideal) ((c : Thread nD τ).loc b)) (a1 : (pcfg1 (F := Ideal)).Adm) (c : Dev nD)

/-- The one point's block of the output is the whole output. -/
theorem whole1 : ((cfg1 a1).win 3).WholeAt t1_0 := by
  have h : (win1 (F := Ideal) ⟨fun _ _ => default, trivial⟩ 3).WholeAt t1_0 := by decide +kernel
  exact h

/-! Each input's one block is its whole array. -/

theorem pblk0_eq : (pblk V a1 c 0 t1_0 : FVec Ideal S2048x32 .f32) = V c main_call0_v1 := by
  refine funext fun (y : S2048x32.Idx) => ?_
  refine congrArg (V c main_call0_v1) (funext fun a => Fin.ext ?_)
  fin_cases a
  · show 0 * _ + 1 * (y 0).val = (y 0).val; omega
  · show 0 * _ + 1 * (y 1).val = (y 1).val; omega

theorem pblk1_eq : (pblk V a1 c 1 t1_0 : FVec Ideal S32x1024 .f32) = V c main_call0_v3 := by
  refine funext fun (y : S32x1024.Idx) => ?_
  refine congrArg (V c main_call0_v3) (funext fun a => Fin.ext ?_)
  fin_cases a
  · show 0 * _ + 1 * (y 0).val = (y 0).val; omega
  · show 0 * _ + 1 * (y 1).val = (y 1).val; omega

theorem pblk2_eq : (pblk V a1 c 2 t1_0 : Vec Ideal S2048x1 .i32) = V c main_call0_v7 := by
  refine funext fun (y : S2048x1.Idx) => ?_
  refine congrArg (V c main_call0_v7) (funext fun a => Fin.ext ?_)
  fin_cases a
  · show 0 * _ + 1 * (y 0).val = (y 0).val; omega
  · show 0 * _ + 1 * (y 1).val = (y 1).val; omega

variable (u : Fin 2048 → Fin 32 → ℝ) (w : Fin 1024 → Fin 32 → ℝ)

/-- The output array, if the body left in its block what it is known to leave there. -/
theorem patch_arr (hz : ∀ n i, (V c main_call0_v1 : FVec Ideal S2048x32 .f32) (ix2 n i) = (u n i : EReal))
    (het : ∀ i k, (V c main_call0_v3 : FVec Ideal S32x1024 .f32) (ix2 i k) = (w k i : EReal))
    (hp : ∀ n : Fin 2048, (V c main_call0_v7 : Vec Ideal S2048x1 .i32) (ix2 n 0) = BitVec.ofNat 32 (near (u n) w).val)
    (f : Buf (Elt Ideal) (((cfg1 a1).win 3).arr.view.loc (c.tc : Thread nD τ)))
    (hf : ((dat1 V a1 c).toRRel fgt1 (rel1 V a1 c)).ArrAt 3 (cfg1 a1).N f) (n : Fin 2048) :
    (f : Vec Ideal S2048x1 .i32) (ix2 n 0) = BitVec.ofNat 32 (near (u n) w).val := by
  obtain ⟨X, hX, hG⟩ := Pipeline.RDat.ArrAt.emb_eq_of_wholeAt hf (whole1 a1)
  have hR : Good (pblk V a1 c 0 t1_0) (pblk V a1 c 1 t1_0) (pblk V a1 c 2 t1_0) X := (dat1 V a1 c).toRRel_leaves (fgt := fgt1) (Rl := rel1 V a1 c) rfl hX
  rw [pblk0_eq, pblk1_eq, pblk2_eq] at hR
  have h1 := good_near _ _ u w hz het _ _ hp hR n
  rw [← h1]
  exact hG (ix2 n 0)

end

end Cert.KernelIdeal.Own

end
-- ==== Proof.Vals.KernelVal.lean ====
/- What the whole kernel leaves in its three results, over the reals. -/
module

public import proofs.«01_k».proof.Proof.Ideal.Run
public import proofs.«01_k».proof.Proof.Vals.ScoreArr
public import proofs.«01_k».proof.Proof.Vals.PatchArr

@[expose] public section

set_option maxRecDepth 16384

noncomputable section

namespace Cert.KernelIdeal.Own

open Cert.KernelIdeal Cert.KernelIdeal.Gen Cert.Own
open Idealize.ShloMosaic Idealize.ShloMosaic.TcCoe Idealize.SL.Sem
open Idealize.ShloMosaic.Pipeline (Dat)

/-- The latents as rows, one latent vector a row. -/
abbrev rowsOf (x : FVec Ideal S2x32x32x32 .f32) : FVec Ideal S2048x32 .f32 :=
  shapeCast S2048x32 (transpose S2x32x32x32 [0, 3, 1, 2] x transposes_S2x32x32x32_S2x32x32x32_0_3_1_2) shapeCasts_S2x32x32x32_S2048x32

/-- The rows' real entries. -/
def uOf (x : FVec Ideal S2x32x32x32 .f32) (n : Fin 2048) (i : Fin 32) : ℝ := (rowsOf x (ix2 n i)).toReal
/-- The code vectors' real entries. -/
def wOf (e : FVec Ideal S1024x32 .f32) (k : Fin 1024) (i : Fin 32) : ℝ := (e (ix2 k i)).toReal

/-- Every entry is a real. -/
def Fin4 (x : FVec Ideal S2x32x32x32 .f32) : Prop := ∀ j, x j = ((x j).toReal : EReal)
def Fin2 (e : FVec Ideal S1024x32 .f32) : Prop := ∀ j, e j = ((e j).toReal : EReal)

theorem rowsOf_coe {x : FVec Ideal S2x32x32x32 .f32} (hx : Fin4 x) (n : Fin 2048) (i : Fin 32) : rowsOf x (ix2 n i) = (uOf x n i : EReal) :=
  hx _
theorem wOf_coe {e : FVec Ideal S1024x32 .f32} (he : Fin2 e) (k : Fin 1024) (i : Fin 32) : e (ix2 k i) = (wOf e k i : EReal) := he _

/-- Laying the latents out as rows and back changes nothing. -/
theorem rows_back (x : FVec Ideal S2x32x32x32 .f32) :
    transpose S2x32x32x32 [0, 2, 3, 1] (shapeCast S2x32x32x32 (rowsOf x) shapeCasts_S2048x32_S2x32x32x32) transposes_S2x32x32x32_S2x32x32x32_0_2_3_1 = x := by
  funext j
  idx_vars j
  pointwise

/-- The codes' array read as one column. -/
theorem column_apply (g : Vec Ideal S2x1x1024 .i32) (n : Fin 2048) :
    shapeCast S2048x1 g shapeCasts_S2x1x1024_S2048x1 (ix2 n 0) = g (ix3 ⟨n.val / 1024, by omega⟩ 0 ⟨n.val % 1024, by omega⟩) := by
  pointwise

theorem ofBits_scale : Ideal.ofBits .f32 0x36800000#32 = (((1 : ℝ) / 262144 : ℝ) : EReal) := by
  simp [Ideal.ofBits, Ideal.ieee, -EReal.coe_mul]
  norm_num

section

variable (m : (ℓ : Loc nD τ sig) → Buf (Elt Ideal) ℓ) (c : Dev nD)

abbrev inZ : FVec Ideal S2x32x32x32 .f32 := m ((c : Thread nD τ).loc main_arg0)
abbrev inE : FVec Ideal S1024x32 .f32 := m ((c : Thread nD τ).loc main_arg1)

theorem rows_eq : (H1 m c main_call0_v1 : FVec Ideal S2048x32 .f32)
    = shapeCast S2048x32 (transpose S2x32x32x32 [0, 3, 1, 2] (inZ m c) transposes_S2x32x32x32_S2x32x32x32_0_3_1_2) shapeCasts_S2x32x32x32_S2048x32 := by
  after_results
  try rfl

theorem rowsT_eq : (H1 m c main_call0_v2 : FVec Ideal S32x2048 .f32)
    = transpose S32x2048 [1, 0] (H1 m c main_call0_v1) transposes_S2048x32_S32x2048_1_0 := by
  rw [rows_eq]
  after_results
  try rfl

theorem codesT_eq : (H1 m c main_call0_v3 : FVec Ideal S32x1024 .f32)
    = transpose S32x1024 [1, 0] (inE m c) transposes_S1024x32_S32x1024_1_0 := by
  after_results
  try rfl

theorem prov_eq : (H3 m c main_call0_v7 : Vec Ideal S2048x1 .i32)
    = shapeCast S2048x1 ((dat0 (U1 m) c).arrAt 3 cfg0.N : Vec Ideal S2x1x1024 .i32) shapeCasts_S2x1x1024_S2048x1 := by
  have h := H2_arr m c 3
  rw [← h]
  after_results
  rfl

theorem out0_eq (f) : (H5 m c f main_v0_0 : FVec Ideal S2x32x32x32 .f32)
    = transpose S2x32x32x32 [0, 2, 3, 1] (shapeCast S2x32x32x32 ((dat0 (U1 m) c).arrAt 6 cfg0.N : FVec Ideal S2048x32 .f32) shapeCasts_S2048x32_S2x32x32x32) transposes_S2x32x32x32_S2x32x32x32_0_2_3_1 := by
  have h := H2_arr m c 6
  have h4 : H4 m c f (Proc.devRef .tc main_call0_v4_3) = H2 m c (Proc.devRef .tc main_call0_v4_3) :=
    (H4_of m c f main_call0_v4_3 (by decide)).trans (H3_of m c main_call0_v4_3 (by decide))
  rw [← h]
  unfold H5
  generalize H4 m c f = V at h4 ⊢
  after_results
  rw [h4]
  rfl

theorem out1_eq (f : Vec Ideal S2048x1 .i32) : (H5 m c f main_v0_1 : Vec Ideal S2048 .i32) = shapeCast S2048 f shapeCasts_S2048x1_S2048 := by
  have h4 := H4_self m c f
  unfold H5
  generalize H4 m c f = V at h4 ⊢
  after_results
  rw [h4]
  rfl

theorem out2_eq (f) : (H5 m c f main_v0_2 : FVec Ideal S_ .f32)
    = mulf (F := Ideal) (s := S_) (φ := .f32) (shapeCast S_ ((dat0 (U1 m) c).arrAt 7 cfg0.N : FVec Ideal S1x1 .f32) shapeCasts_S1x1_S_) (constant S_ .f32 0x36800000#32) := by
  have h := H2_arr m c 7
  have h4 : H4 m c f (Proc.devRef .tc main_call0_v4_4) = H2 m c (Proc.devRef .tc main_call0_v4_4) :=
    (H4_of m c f main_call0_v4_4 (by decide)).trans (H3_of m c main_call0_v4_4 (by decide))
  rw [← h]
  unfold H5
  generalize H4 m c f = V at h4 ⊢
  after_results
  rw [h4]
  rfl

/-! ## The results -/

/-- The first result is the latents. -/
theorem kernel_out0 (f) : (H5 m c f main_v0_0 : FVec Ideal S2x32x32x32 .f32) = inZ m c := by
  rw [out0_eq, copy_arr]
  have h : (U1 m c main_call0_v1 : FVec Ideal S2048x32 .f32) = rowsOf (inZ m c) := rows_eq m c
  rw [h]
  exact rows_back _

variable (hx : Fin4 (inZ m c)) (he : Fin2 (inE m c))

include hx in
theorem rows_at (n : Fin 2048) (i : Fin 32) : (H1 m c main_call0_v1 : FVec Ideal S2048x32 .f32) (ix2 n i) = (uOf (inZ m c) n i : EReal) := by
  rw [rows_eq]; exact rowsOf_coe hx n i
include hx in
theorem rowsT_at (i : Fin 32) (n : Fin 2048) : (H1 m c main_call0_v2 : FVec Ideal S32x2048 .f32) (ix2 i n) = (uOf (inZ m c) n i : EReal) := by
  rw [rowsT_eq, ← rows_at m c hx]
  pointwise
include he in
theorem codesT_at (i : Fin 32) (k : Fin 1024) : (H1 m c main_call0_v3 : FVec Ideal S32x1024 .f32) (ix2 i k) = (wOf (inE m c) k i : EReal) := by
  rw [codesT_eq, ← wOf_coe he]
  pointwise

include hx he in
theorem prov_at (n : Fin 2048) : (H3 m c main_call0_v7 : Vec Ideal S2048x1 .i32) (ix2 n 0)
    = BitVec.ofNat 32 (near (uOf (inZ m c) n) (wOf (inE m c))).val := by
  rw [prov_eq, codes_arr (U1 m) c (uOf (inZ m c)) (wOf (inE m c)) (rows_at m c hx) (rowsT_at m c hx) (codesT_at m c he), column_apply]
  refine congrArg (fun n => BitVec.ofNat 32 (near (uOf (inZ m c) n) (wOf (inE m c))).val) (Fin.ext ?_)
  show n.val / 1024 * 1024 + n.val % 1024 = n.val
  omega

include hx he in
/-- The second result is every row's nearest code. -/
theorem kernel_out1 (f : Vec Ideal S2048x1 .i32) (hf : Patched m c f) : (H5 m c f main_v0_1 : Vec Ideal S2048 .i32)
    = fun j => BitVec.ofNat 32 (near (uOf (inZ m c) (j 0)) (wOf (inE m c))).val := by
  obtain ⟨G, hGf, hG⟩ := hf
  have h1 : ∀ n i, (U3 m c main_call0_v1 : FVec Ideal S2048x32 .f32) (ix2 n i) = (uOf (inZ m c) n i : EReal) := fun n i => by
    rw [← rows_at m c hx]
    exact congrFun ((H3_of m c main_call0_v1 (by decide)).trans (H2_of m c main_call0_v1 (by decide))) _
  have h3 : ∀ i k, (U3 m c main_call0_v3 : FVec Ideal S32x1024 .f32) (ix2 i k) = (wOf (inE m c) k i : EReal) := fun i k => by
    rw [← codesT_at m c he]
    exact congrFun ((H3_of m c main_call0_v3 (by decide)).trans (H2_of m c main_call0_v3 (by decide))) _
  have h := patch_arr (U3 m) (tabs m 1) c (uOf (inZ m c)) (wOf (inE m c)) h1 h3 (prov_at m c hx he) (G 3) hG
  have h' : ∀ n : Fin 2048, f (ix2 n 0) = BitVec.ofNat 32 (near (uOf (inZ m c) n) (wOf (inE m c))).val := fun n => by
    rw [← hGf]; exact h n
  rw [out1_eq]
  funext j
  obtain ⟨n, rfl⟩ : ∃ n : Fin 2048, j = Idealize.ShloMosaic.ix1 n := ⟨j 0, by funext a; fin_cases a; rfl⟩
  pointwise [h']

include hx he in
/-- The third result is the mean squared distance to the nearest codes, times a quarter. -/
theorem kernel_out2 (f) (j : S_.Idx) : (H5 m c f main_v0_2 : FVec Ideal S_ .f32) j
    = (((∑ n, dsq (uOf (inZ m c) n) (wOf (inE m c) (near (uOf (inZ m c) n) (wOf (inE m c))))) * (1 / 262144) : ℝ) : EReal) := by
  rw [out2_eq]
  have h := loss_arr (U1 m) c (uOf (inZ m c)) (wOf (inE m c)) (rows_at m c hx) (codesT_at m c he)
  generalize ((dat0 (U1 m) c).arrAt 7 cfg0.N : FVec Ideal S1x1 .f32) = g at h ⊢
  pointwise [h, ofBits_scale]
  exact (EReal.coe_mul _ _).symm

end

end Cert.KernelIdeal.Own

end
-- ==== Proof.Vals.RefArg.lean ====
/- The reference's running minimum with its position: folded over a row it gives the first minimum's position. -/
module

public import proofs.«01_k».proof.Proof.RefRun
public import proofs.«01_k».proof.Proof.Vals.Nearest
public import Idealize.ShloMosaic.Lib.Pointwise

@[expose] public section

set_option maxRecDepth 16384

noncomputable section

namespace Cert.ReferenceIdeal.Own

open Cert.ReferenceIdeal Cert.Own
open Idealize.ShloMosaic Idealize.ShloMosaic.TcCoe Idealize.SL.Sem
open Facts₀ Facts

/-- One step, in plain order comparisons. -/
theorem step_eq (a b : EReal × BitVec 32) : reducer_argmin_f32_i32 (F := Ideal) a b
    = (if a.1 < b.1 then a.1 else b.1, if a.1 < b.1 ∨ (a.1 = b.1 ∧ a.2.toInt < b.2.toInt) then a.2 else b.2) := by
  have h : Ideal.cmp .une a.1 a.1 = 0#1 := by simp [Ideal.cmp]
  unfold reducer_argmin_f32_i32
  simp only [Ideal.cmpf_def, h]
  by_cases h1 : a.1 < b.1 <;> by_cases h2 : a.1 = b.1 <;> by_cases h3 : a.2.toInt < b.2.toInt <;>
    simp [Ideal.cmp, Scalar.select, IntOp.ori, IntOp.andi, IntOp.cmpi, BitVec.slt, h1, h2, h3]

section

variable (D : Fin 1024 → EReal) (k : Fin 1024) (hk : IsFirst D k) (hD : ∀ j, D j < ⊤)

/-- Entry `j` with its position. -/
def pairAt (j : Fin 1024) : EReal × BitVec 32 := (D j, BitVec.ofNat 32 j.val)

theorem pairAt_lt (i j : Fin 1024) : (pairAt D i).2.toInt < (pairAt D j).2.toInt ↔ i < j := by
  unfold pairAt
  simp only [toInt_ofNat_small i.val (by omega), toInt_ofNat_small j.val (by omega)]
  exact Int.ofNat_lt

/-- What the running pair can be: the start, or some entry. -/
def Seen (a : EReal × BitVec 32) : Prop := a = (⊤, 0#32) ∨ ∃ j, a = pairAt D j

include hD in
theorem seen_step (a : EReal × BitVec 32) (ha : Seen D a) (j : Fin 1024) : Seen D (reducer_argmin_f32_i32 (F := Ideal) a (pairAt D j)) := by
  rw [step_eq]
  rcases ha with rfl | ⟨i, rfl⟩
  · right; refine ⟨j, ?_⟩
    have h : ¬ ((⊤ : EReal) < (pairAt D j).1) := not_top_lt
    have h' : ¬ ((⊤ : EReal) = (pairAt D j).1) := (hD j).ne'
    simp only [h, h', false_and, or_false, if_false]
  · right
    by_cases h1 : (pairAt D i).1 < (pairAt D j).1
    · exact ⟨i, by simp only [h1, true_or, if_true]⟩
    · by_cases h2 : (pairAt D i).1 = (pairAt D j).1 ∧ (pairAt D i).2.toInt < (pairAt D j).2.toInt
      · refine ⟨i, ?_⟩
        rw [if_neg h1, if_pos (Or.inr h2)]
        exact Prod.ext h2.1.symm rfl
      · exact ⟨j, by simp only [h1, h2, or_false, if_false]⟩

include hk hD in
theorem step_to (a : EReal × BitVec 32) (ha : Seen D a) : reducer_argmin_f32_i32 (F := Ideal) a (pairAt D k) = pairAt D k := by
  rw [step_eq]
  rcases ha with rfl | ⟨i, rfl⟩
  · have h : ¬ ((⊤ : EReal) < (pairAt D k).1) := not_top_lt
    have h' : ¬ ((⊤ : EReal) = (pairAt D k).1) := (hD k).ne'
    simp only [h, h', false_and, or_false, if_false]
  · have h1 : ¬ ((pairAt D i).1 < (pairAt D k).1) := not_lt.mpr (hk.1 i)
    have h2 : ¬ ((pairAt D i).1 = (pairAt D k).1 ∧ (pairAt D i).2.toInt < (pairAt D k).2.toInt) := by
      rintro ⟨e, l⟩
      exact absurd (hk.2 i ((pairAt_lt D i k).mp l)) (not_lt.mpr (le_of_eq e))
    simp only [h1, h2, or_false, if_false]

include hk in
theorem step_keep (j : Fin 1024) : reducer_argmin_f32_i32 (F := Ideal) (pairAt D k) (pairAt D j) = pairAt D k := by
  rw [step_eq]
  by_cases h1 : (pairAt D k).1 < (pairAt D j).1
  · simp only [h1, true_or, if_true]
  · have e : (pairAt D k).1 = (pairAt D j).1 := le_antisymm (hk.1 j) (not_lt.mp h1)
    rcases lt_trichotomy k j with h | h | h
    · have l := (pairAt_lt D k j).mpr h
      simp only [h1, e, l, and_self, or_true, if_true, lt_irrefl, if_false]
      exact Prod.ext e.symm rfl
    · subst h; simp only [lt_irrefl, and_false, or_false, if_false]
    · exact absurd (hk.2 j h) (not_lt.mpr (le_of_eq (show D j = D k from e.symm)))

include hk hD in
/-- Folding the step over entries that include the first minimum ends at it. -/
theorem fold_pairs (L : List (EReal × BitVec 32)) (hL : ∀ p ∈ L, ∃ j, p = pairAt D j) (a : EReal × BitVec 32) (ha : Seen D a)
    (h : pairAt D k ∈ L ∨ a = pairAt D k) : L.foldl (reducer_argmin_f32_i32 (F := Ideal)) a = pairAt D k := by
  induction L generalizing a with
  | nil => rcases h with h | h
           · cases h
           · exact h
  | cons p L ih =>
    obtain ⟨j, rfl⟩ := hL p List.mem_cons_self
    refine ih (fun q hq => hL q (List.mem_cons_of_mem _ hq)) _ (seen_step D hD a ha j) ?_
    rcases h with h | rfl
    · rcases List.mem_cons.mp h with h | h
      · right; rw [← h]; exact step_to D k hk hD a ha
      · exact Or.inl h
    · right; exact step_keep D k hk j

end

/-- The reference's arg-min of a row is the first minimum's position. -/
theorem argmin_apply (x : FVec Ideal S2048x1024 .f32) (n : Fin 2048) (k : Fin 1024) (hk : IsFirst (fun j => x (ix2 n j)) k)
    (hD : ∀ j, x (ix2 n j) < ⊤) :
    (Host.argReduce (reducer_argmin_f32_i32 (F := Ideal)) x (iotaInDim S2048x1024 32 1) (constant (F := Ideal) S_ .f32 0x7F800000#32) (constantI S_ 32 0#32)
      reducesTo_S2048x1024_S2048_d1 h_S_ (ix1 n)).2 = BitVec.ofNat 32 k.val := by
  rw [Ideal.argReduce_eq_reduce2, Host.reduce2_eq_foldl_fiber]
  have hd : ∀ i : S2048x1024.Idx, reducesTo_S2048x1024_S2048_d1.drop i = ix1 n ↔ ∃ j : Fin 1024, i = ix2 n j := by
    intro i
    constructor
    · intro e
      refine ⟨i 1, funext fun a => ?_⟩
      fin_cases a
      · have := congrArg (fun q : S2048.Idx => (q 0).val) e
        exact Fin.ext this
      · rfl
    · rintro ⟨j, rfl⟩
      funext a; fin_cases a; rfl
  have h := fold_pairs (fun j => x (ix2 n j)) k hk hD
    (Host.argReduceFiber x (iotaInDim S2048x1024 32 1) reducesTo_S2048x1024_S2048_d1 (ix1 n)) (fun p hp => ?_) (⊤, 0#32) (Or.inl rfl) (Or.inl ?_)
  · have e : ((constant (F := Ideal) S_ .f32 0x7F800000#32) (Shape.Idx.first h_S_), (constantI S_ 32 0#32) (Shape.Idx.first h_S_)) = ((⊤ : EReal), 0#32) :=
      Prod.ext ofBits_inf rfl
    rw [e]
    exact congrArg Prod.snd h
  · obtain ⟨q, hq, rfl⟩ := List.mem_map.mp hp
    obtain ⟨j, hj⟩ := (hd _).mp (of_decide_eq_true (List.mem_filter.mp hq).2)
    exact ⟨j, by rw [hj]; rfl⟩
  · refine List.mem_map.mpr ⟨S2048x1024.rowMajor (ix2 n k), List.mem_filter.mpr ⟨List.mem_finRange _, ?_⟩, ?_⟩
    · rw [Equiv.symm_apply_apply]
      exact decide_eq_true ((hd _).mpr ⟨k, rfl⟩)
    · rw [Equiv.symm_apply_apply]; rfl

end Cert.ReferenceIdeal.Own

end
-- ==== Proof.Vals.RefVal.lean ====
/- What the reference leaves in its three results, over the reals. -/
module

public import proofs.«01_k».proof.Proof.Vals.RefArg
public import Idealize.ShloMosaic.Lib.Routing.Ops

@[expose] public section

set_option maxRecDepth 16384

noncomputable section

namespace Cert.ReferenceIdeal.Own

open Cert.ReferenceIdeal Cert.Own
open Idealize.ShloMosaic Idealize.ShloMosaic.TcCoe Idealize.SL.Sem Idealize.ShloMosaic.StableHlo
open Facts₀ Facts

/-! ## The results as functions of the arguments -/

/-- The latents with the channels second. -/
abbrev refT (x : FVec Ideal S2x32x32x32 .f32) : FVec Ideal S2x32x32x32 .f32 :=
  transpose S2x32x32x32 [0, 3, 1, 2] x transposes_S2x32x32x32_S2x32x32x32_0_3_1_2
/-- The latents as rows. -/
abbrev refRows (x : FVec Ideal S2x32x32x32 .f32) : FVec Ideal S2048x32 .f32 := shapeCast S2048x32 (refT x) shapeCasts_S2x32x32x32_S2048x32
/-- Every difference of a row and a code vector. -/
def refDiff (z : FVec Ideal S2048x32 .f32) (e : FVec Ideal S1024x32 .f32) : FVec Ideal S2048x1024x32 .f32 :=
  subf (broadcastInDim S2048x1024x32 ![0, 1, 2] bcast_S2048x1x32_S2048x1024x32_0_1_2 (broadcastInDim S2048x1x32 ![0, 2] bcast_S2048x32_S2048x1x32_0_2 z))
    (broadcastInDim S2048x1024x32 ![0, 1, 2] bcast_S1x1024x32_S2048x1024x32_0_1_2 (broadcastInDim S1x1024x32 ![1, 2] bcast_S1024x32_S1x1024x32_1_2 e))
/-- Every distance. -/
def refDist (z : FVec Ideal S2048x32 .f32) (e : FVec Ideal S1024x32 .f32) : FVec Ideal S2048x1024 .f32 :=
  Host.sqrt (Host.reduceAdd (mulf (refDiff z e) (refDiff z e)) (constant (F := Ideal) S_ .f32 0x00000000#32) reducesTo_S2048x1024x32_S2048x1024_d2 h_S_)
/-- The arg-min of every row. -/
def refArg (d : FVec Ideal S2048x1024 .f32) : Vec Ideal S2048 .i32 := fun j =>
  (Host.argReduce (reducer_argmin_f32_i32 (F := Ideal)) d (iotaInDim S2048x1024 32 1) (constant (F := Ideal) S_ .f32 0x7F800000#32) (constantI S_ 32 0#32)
    reducesTo_S2048x1024_S2048_d1 h_S_ j).2
/-- The look-up's start indices. -/
def refCol (i : Vec Ideal S2048 .i32) : Vec Ideal S2048x1 .i32 :=
  broadcastInDim S2048x1 ![0] bcast_S2048_S2048x1_0
    (select (cmpi .slt i (broadcastInDim S2048 ![] bcast_S_S2048 (constantI S_ 32 0#32))) (addi i (broadcastInDim S2048 ![] bcast_S_S2048 (constantI S_ 32 1024#32))) i)
/-- Which rows look inside the code book. -/
def refIn (k : Vec Ideal S2048x1 .i32) : Vec Ideal S2048 .i1 :=
  Host.reduce IntOp.andi (andi (cmpi .sge k (broadcastInDim S2048x1 ![] bcast_S_S2048x1 (constantI S_ 32 0#32)))
    (cmpi .sle k (broadcastInDim S2048x1 ![0, 1] bcast_S1x1_S2048x1_0_1 (broadcastInDim S1x1 ![1] bcast_S1_S1x1_1 (constantI S1 32 1023#32)))))
    (constantI S_ 1 1#1) reducesTo_S2048x1_S2048_d1 h_S_
/-- The rows looked up. -/
def refTake (e : FVec Ideal S1024x32 .f32) (i : Vec Ideal S2048 .i32) : FVec Ideal S2048x32 .f32 :=
  select (broadcastInDim S2048x32 ![0] bcast_S2048_S2048x32_0 (refIn (refCol i))) (Host.gather gather_S1024x32_S2048x1_S2048x32_1_0_n_n_0_1_132 e (refCol i))
    (broadcastInDim S2048x32 ![] bcast_S_S2048x32 (constant (F := Ideal) S_ .f32 0x7FC00000#32))
/-- The rows looked up, put through the straight-through sum. -/
def refSum (t q : FVec Ideal S2x32x32x32 .f32) : FVec Ideal S2x32x32x32 .f32 := addf q (subf t q)
/-- A mean square. -/
def refMean (d : FVec Ideal S2x32x32x32 .f32) : FVec Ideal S_ .f32 :=
  Host.divf (Host.reduceAdd (mulf d d) (constant (F := Ideal) S_ .f32 0x00000000#32) reducesTo_S2x32x32x32_S_d0_1_2_3 h_S_) (constant (F := Ideal) S_ .f32 0x47800000#32)
/-- The loss. -/
def refLoss (t q : FVec Ideal S2x32x32x32 .f32) : FVec Ideal S_ .f32 :=
  addf (refMean (subf (refSum t q) t)) (mulf (constant (F := Ideal) S_ .f32 0x3E800000#32) (refMean (subf q t)))

section

variable (V : Valuation τ sig (Elt Ideal))

theorem ops0_v0 : after ops0 V (Proc.devRef .tc main_v0) = refT (V (Proc.devRef .tc main_arg0)) := by
  after_results
  try rfl
theorem ops0_v7 : after ops0 V (Proc.devRef .tc main_v7) = refDist (refRows (V (Proc.devRef .tc main_arg0))) (V (Proc.devRef .tc main_arg1)) := by
  after_results
  try rfl
theorem ops1_v8 : after ops1 V (Proc.devRef .tc main_v8) = refArg (V (Proc.devRef .tc main_v7)) := by
  after_results
  try rfl
theorem ops2_v9 : after ops2 V (Proc.devRef .tc main_v9) = refTake (V (Proc.devRef .tc main_arg1)) (V (Proc.devRef .tc main_v8)) := by
  after_results
  try rfl
theorem ops3_v23 : after ops3 V (Proc.devRef .tc main_v23) = transpose S2x32x32x32 [0, 2, 3, 1]
    (refSum (V (Proc.devRef .tc main_v0)) (shapeCast S2x32x32x32 (V (Proc.devRef .tc main_v9) : FVec Ideal S2048x32 .f32) shapeCasts_S2048x32_S2x32x32x32))
    transposes_S2x32x32x32_S2x32x32x32_0_2_3_1 := by
  after_results
  try rfl
theorem ops3_v22 : after ops3 V (Proc.devRef .tc main_v22)
    = refLoss (V (Proc.devRef .tc main_v0)) (shapeCast S2x32x32x32 (V (Proc.devRef .tc main_v9) : FVec Ideal S2048x32 .f32) shapeCasts_S2048x32_S2x32x32x32) := by
  after_results
  try rfl

end

end Cert.ReferenceIdeal.Own

end
-- ==== Proof.Vals.RefApply.lean ====
/- The reference's results at real arguments: the nearest codes, the latents again, and the loss as one sum. -/
module

public import proofs.«01_k».proof.Proof.Vals.RefVal
public import Idealize.ShloMosaic.Lib.Pipeline.Value

@[expose] public section

set_option maxRecDepth 16384

noncomputable section

namespace Cert.ReferenceIdeal.Own

open Cert.ReferenceIdeal Cert.Own
open Idealize.ShloMosaic Idealize.ShloMosaic.TcCoe Idealize.SL.Sem Idealize.ShloMosaic.StableHlo
open Facts₀ Facts

section

variable (z : FVec Ideal S2048x32 .f32) (e : FVec Ideal S1024x32 .f32) (u : Fin 2048 → Fin 32 → ℝ) (w : Fin 1024 → Fin 32 → ℝ)
variable (hz : ∀ n i, z (ix2 n i) = (u n i : EReal)) (he : ∀ k i, e (ix2 k i) = (w k i : EReal))

include hz he in
theorem refDist_apply (n : Fin 2048) (k : Fin 1024) : refDist z e (ix2 n k) = Ideal.sqrt ((dsq (u n) (w k) : ℝ) : EReal) := by
  pointwise [refDist, refDiff, hz, he]
  simp only [← EReal.coe_sub, ← EReal.coe_mul, ← coe_sum]
  rfl

include hz he in
theorem refArg_apply (n : Fin 2048) : refArg (refDist z e) (ix1 n) = BitVec.ofNat 32 (near (u n) w).val := by
  have h := refDist_apply z e u w hz he n
  refine argmin_apply (refDist z e) n (near (u n) w) ?_ fun j => ?_
  · have : (fun j => refDist z e (ix2 n j)) = fun k => Ideal.sqrt ((dsq (u n) (w k) : ℝ) : EReal) := funext h
    rw [this]; exact near_dist (u n) w
  · rw [h, sqrt_coe_nonneg _ (dsq_nonneg _ _)]
    exact EReal.coe_lt_top _

include he in
/-- A look-up at in-range codes. -/
theorem refTake_apply (i : Vec Ideal S2048 .i32) (K : Fin 2048 → Fin 1024) (hi : ∀ n : Fin 2048, i (ix1 n) = BitVec.ofNat 32 (K n).val)
    (n : Fin 2048) (d : Fin 32) : refTake e i (ix2 n d) = (w (K n) d : EReal) := by
  have hneg : IntOp.cmpi .slt (BitVec.ofNat 32 (K n).val) 0#32 = 0#1 := by
    have : BitVec.slt (BitVec.ofNat 32 (K n).val) 0#32 = false := by
      rw [BitVec.slt, toInt_ofNat_small (K n).val (by have := (K n).isLt; omega)]
      exact decide_eq_false (by simp)
    simp only [IntOp.cmpi, this]; rfl
  have hc : refCol i (ix2 n 0) = BitVec.ofNat 32 (K n).val := by
    pointwise [refCol, hi]
    rw [hneg]; rfl
  have hin : refIn (refCol i) (ix1 n) = 1#1 := by
    generalize refCol i = k at hc
    pointwise [refIn]
    rw [Finset.univ_unique, Finset.fold_singleton]
    show IntOp.andi (IntOp.andi (IntOp.cmpi .sge (k (ix2 n 0)) 0#32) (IntOp.cmpi .sle (k (ix2 n 0)) 1023#32)) 1#1 = 1#1
    rw [hc]
    have h1 : BitVec.sle 0#32 (BitVec.ofNat 32 (K n).val) = true := by
      rw [BitVec.sle, toInt_ofNat_small (K n).val (by have := (K n).isLt; omega)]
      exact decide_eq_true (by simp)
    have h2 : BitVec.sle (BitVec.ofNat 32 (K n).val) 1023#32 = true := by
      rw [BitVec.sle, toInt_ofNat_small (K n).val (by have := (K n).isLt; omega)]
      exact decide_eq_true (by have := (K n).isLt; show ((K n).val : ℤ) ≤ 1023; omega)
    simp only [IntOp.cmpi, h1, h2]
    rfl
  have hg : Host.gather gather_S1024x32_S2048x1_S2048x32_1_0_n_n_0_1_132 e (refCol i) (ix2 n d) = e (ix2 (K n) d) :=
    Idealize.ShloMosaic.Routing.gather_row gather_S1024x32_S2048x1_S2048x32_1_0_n_n_0_1_132 rfl rfl rfl rfl rfl e (refCol i) n d (K n) hc (by decide)
  unfold refTake
  generalize refIn (refCol i) = b at hin ⊢
  generalize Host.gather gather_S1024x32_S2048x1_S2048x32_1_0_n_n_0_1_132 e (refCol i) = g at hg ⊢
  pointwise [hin, hg, he]

end

theorem ofBits_count : Ideal.ofBits .f32 0x47800000#32 = ((65536 : ℝ) : EReal) := by
  simp [Ideal.ofBits, Ideal.ieee, -EReal.coe_mul]
  norm_num

theorem ofBits_quarter : Ideal.ofBits .f32 0x3E800000#32 = (((1 : ℝ) / 4 : ℝ) : EReal) := by
  simp [Ideal.ofBits, Ideal.ieee, -EReal.coe_mul]
  norm_num

section

variable (t q : FVec Ideal S2x32x32x32 .f32) (a b : S2x32x32x32.Idx → ℝ) (ht : ∀ j, t j = (a j : EReal)) (hq : ∀ j, q j = (b j : EReal))

include ht hq in
/-- The straight-through sum of finite values is the latents. -/
theorem refSum_eq : refSum t q = t := by
  funext j
  show q j + (t j - q j) = t j
  rw [ht, hq, ← EReal.coe_sub, ← EReal.coe_add]
  exact congrArg _ (by ring)

theorem refMean_apply (d : FVec Ideal S2x32x32x32 .f32) (r : S2x32x32x32.Idx → ℝ) (hd : ∀ j, d j = (r j : EReal)) (x : S_.Idx) :
    refMean d x = (((∑ j, r j * r j) / 65536 : ℝ) : EReal) := by
  have h0 : ∀ y, mulf d d y = ((r y * r y : ℝ) : EReal) := fun y => by
    show d y * d y = _
    rw [hd, EReal.coe_mul]
  have h : Ideal.hostReduceAdd reducesTo_S2x32x32x32_S_d0_1_2_3 (mulf d d) 0 x = ((∑ j, r j * r j : ℝ) : EReal) := by
    rw [Ideal.hostReduceAdd_total _ (fun b => b.elim0), coe_sum, zero_add]
    exact Finset.sum_congr rfl fun y _ => h0 y
  show Ideal.div (Ideal.hostReduceAdd reducesTo_S2x32x32x32_S_d0_1_2_3 (mulf d d) (Ideal.ofBits .f32 0x00000000#32) x) (Ideal.ofBits .f32 0x47800000#32) = _
  rw [ofBits_count, Ideal.ofBits_zero_f32, h, Ideal.div_coe (by norm_num), ← EReal.coe_mul]
  exact congrArg _ (by ring)

end

section

variable (x : FVec Ideal S2x32x32x32 .f32) (Q : FVec Ideal S2048x32 .f32) (u v : Fin 2048 → Fin 32 → ℝ)
  (hu : ∀ n i, refRows x (ix2 n i) = (u n i : EReal)) (hv : ∀ n i, Q (ix2 n i) = (v n i : EReal))

/-- The place in the rows of an entry of the latents. -/
abbrev place : S2x32x32x32.Idx ≃ S2048x32.Idx := Shape.reshapeEquiv shapeCasts_S2048x32_S2x32x32x32

theorem pair_eq (p : S2048x32.Idx) : p = ix2 (p 0 : Fin 2048) (p 1 : Fin 32) := by
  funext a; fin_cases a <;> rfl

include hu in
theorem refT_coe (j : S2x32x32x32.Idx) : refT x j = (u (place j 0) (place j 1) : EReal) := by
  have h : refT x = shapeCast S2x32x32x32 (refRows x) shapeCasts_S2048x32_S2x32x32x32 := (shapeCast_shapeCast _ _ _).symm
  rw [h]
  exact (congrArg (refRows x) (pair_eq (place j))).trans (hu _ _)

include hv in
theorem refQ_coe (j : S2x32x32x32.Idx) : shapeCast S2x32x32x32 Q shapeCasts_S2048x32_S2x32x32x32 j = (v (place j 0) (place j 1) : EReal) :=
  (congrArg Q (pair_eq (place j))).trans (hv _ _)

include hu hv in
theorem refSum_latents : refSum (refT x) (shapeCast S2x32x32x32 Q shapeCasts_S2048x32_S2x32x32x32) = refT x :=
  refSum_eq _ _ _ _ (refT_coe x u hu) (refQ_coe Q v hv)

include hu hv in
/-- The loss is a quarter of the mean square of the rows' differences. -/
theorem refLoss_apply (y : S_.Idx) : refLoss (refT x) (shapeCast S2x32x32x32 Q shapeCasts_S2048x32_S2x32x32x32) y
    = (((∑ n, dsq (u n) (v n)) * (1 / 262144) : ℝ) : EReal) := by
  have h1 := refMean_apply (subf (refT x) (refT x)) (fun _ => 0) (fun j => by
    show refT x j - refT x j = _
    rw [refT_coe x u hu, ← EReal.coe_sub, sub_self]) y
  have h2 := refMean_apply (subf (shapeCast S2x32x32x32 Q shapeCasts_S2048x32_S2x32x32x32) (refT x))
    (fun j => v (place j 0) (place j 1) - u (place j 0) (place j 1)) (fun j => by
    show shapeCast S2x32x32x32 Q shapeCasts_S2048x32_S2x32x32x32 j - refT x j = _
    rw [refT_coe x u hu, refQ_coe Q v hv, ← EReal.coe_sub]) y
  have h3 : (∑ j : S2x32x32x32.Idx, (v (place j 0) (place j 1) - u (place j 0) (place j 1)) * (v (place j 0) (place j 1) - u (place j 0) (place j 1)))
      = ∑ n, dsq (u n) (v n) := by
    rw [Equiv.sum_comp place fun p : S2048x32.Idx => (v (p 0) (p 1) - u (p 0) (p 1)) * (v (p 0) (p 1) - u (p 0) (p 1))]
    refine (sum_idx2 _).trans (Finset.sum_congr rfl fun n _ => Finset.sum_congr rfl fun i _ => ?_)
    show (v n i - u n i) * (v n i - u n i) = (u n i - v n i) * (u n i - v n i)
    ring
  rw [h3] at h2
  unfold refLoss
  rw [refSum_latents x Q u v hu hv]
  show refMean (subf (refT x) (refT x)) y + Ideal.ofBits .f32 0x3E800000#32 * refMean _ y = _
  rw [h1, h2, ofBits_quarter, ← EReal.coe_mul, ← EReal.coe_add]
  refine congrArg _ ?_
  simp only [mul_zero, Finset.sum_const_zero]
  ring

end

end Cert.ReferenceIdeal.Own

end
-- ==== Proof.Vals.RefOut.lean ====
/- What the reference leaves in its three results, over the reals. -/
module

public import proofs.«01_k».proof.Proof.Vals.RefApply

@[expose] public section

set_option maxRecDepth 16384

noncomputable section

namespace Cert.ReferenceIdeal.Own

open Cert.ReferenceIdeal Cert.Own
open Idealize.ShloMosaic Idealize.ShloMosaic.TcCoe Idealize.SL.Sem Idealize.ShloMosaic.StableHlo
open Facts₀ Facts

/-- Moving the channels to the front and back changes nothing. -/
theorem refT_back (x : FVec Ideal S2x32x32x32 .f32) :
    transpose S2x32x32x32 [0, 2, 3, 1] (refT x) transposes_S2x32x32x32_S2x32x32x32_0_2_3_1 = x := by
  funext j
  idx_vars j
  pointwise [refT]

section

variable (V : Valuation τ sig (Elt Ideal)) (u : Fin 2048 → Fin 32 → ℝ) (w : Fin 1024 → Fin 32 → ℝ)
  (hz : ∀ n i, refRows (V (Proc.devRef .tc main_arg0)) (ix2 n i) = (u n i : EReal))
  (he : ∀ k i, (V (Proc.devRef .tc main_arg1) : FVec Ideal S1024x32 .f32) (ix2 k i) = (w k i : EReal))

/-- The arrays when the codes are found. -/
abbrev atCodes : Valuation τ sig (Elt Ideal) := after ops1 (after ops0 V)
/-- The arrays when the rows are looked up. -/
abbrev atRows : Valuation τ sig (Elt Ideal) := after ops2 (atCodes V)

theorem atCodes_v8 : atCodes V (Proc.devRef .tc main_v8)
    = refArg (refDist (refRows (V (Proc.devRef .tc main_arg0))) (V (Proc.devRef .tc main_arg1))) := by
  rw [atCodes, ops1_v8, ops0_v7]

theorem ops0_arg1 : after ops0 V (Proc.devRef .tc main_arg1) = V (Proc.devRef .tc main_arg1) := by after_results
theorem ops1_arg1 : after ops1 V (Proc.devRef .tc main_arg1) = V (Proc.devRef .tc main_arg1) := by after_results
theorem ops1_v0 : after ops1 V (Proc.devRef .tc main_v0) = V (Proc.devRef .tc main_v0) := by after_results
theorem ops2_v0 : after ops2 V (Proc.devRef .tc main_v0) = V (Proc.devRef .tc main_v0) := by after_results
theorem ops2_v8 : after ops2 V (Proc.devRef .tc main_v8) = V (Proc.devRef .tc main_v8) := by after_results
theorem ops3_v8 : after ops3 V (Proc.devRef .tc main_v8) = V (Proc.devRef .tc main_v8) := by after_results

theorem atCodes_arg1 : atCodes V (Proc.devRef .tc main_arg1) = V (Proc.devRef .tc main_arg1) := (ops1_arg1 _).trans (ops0_arg1 _)

theorem atRows_v0 : atRows V (Proc.devRef .tc main_v0) = refT (V (Proc.devRef .tc main_arg0)) := (ops2_v0 _).trans <| (ops1_v0 _).trans (ops0_v0 V)

include hz he in
theorem codes_at (n : Fin 2048) : (atCodes V (Proc.devRef .tc main_v8) : Vec Ideal S2048 .i32) (ix1 n) = BitVec.ofNat 32 (near (u n) w).val := by
  rw [atCodes_v8]
  exact refArg_apply _ _ u w hz he n

include hz he in
theorem lookup_at (n : Fin 2048) (i : Fin 32) :
    (atRows V (Proc.devRef .tc main_v9) : FVec Ideal S2048x32 .f32) (ix2 n i) = (w (near (u n) w) i : EReal) := by
  rw [atRows, ops2_v9, atCodes_arg1]
  exact refTake_apply _ w he _ (fun n => near (u n) w) (codes_at V u w hz he) n i

include hz he in
/-- The first result is the latents. -/
theorem out_v23 : after ops V (Proc.devRef .tc main_v23) = V (Proc.devRef .tc main_arg0) := by
  rw [after_ops]
  refine (ops3_v23 (atRows V)).trans ?_
  have h0 := atRows_v0 V
  have h1 := refSum_latents (V (Proc.devRef .tc main_arg0)) (atRows V (Proc.devRef .tc main_v9)) u (fun n => w (near (u n) w)) hz (lookup_at V u w hz he)
  rw [h0, h1]
  exact refT_back _

include hz he in
/-- The second result is the nearest codes. -/
theorem out_v8 : after ops V (Proc.devRef .tc main_v8) = fun j : S2048.Idx => BitVec.ofNat 32 (near (u (j 0)) w).val := by
  rw [after_ops]
  refine (ops3_v8 _).trans <| (ops2_v8 _).trans <| funext fun (j : S2048.Idx) => ?_
  obtain ⟨n, rfl⟩ : ∃ n : Fin 2048, j = ix1 n := ⟨j 0, by funext a; fin_cases a; rfl⟩
  exact codes_at V u w hz he n

include hz he in
/-- The third result is the loss. -/
theorem out_v22 (y : S_.Idx) : after ops V (Proc.devRef .tc main_v22) y = (((∑ n, dsq (u n) (w (near (u n) w))) * (1 / 262144) : ℝ) : EReal) := by
  rw [after_ops]
  refine (congrFun (ops3_v22 (atRows V)) y).trans ?_
  have h0 := atRows_v0 V
  have h1 := refLoss_apply (V (Proc.devRef .tc main_arg0)) (atRows V (Proc.devRef .tc main_v9)) u (fun n => w (near (u n) w)) hz (lookup_at V u w hz he) y
  rw [h0]
  exact h1

end

end Cert.ReferenceIdeal.Own

end
-- ==== Proof.Vals.Finite.lean ====
/- The precondition read back: every entry of both arguments is a real number. -/
module

public import proofs.«01_k».proof.Pre_inputs_finite
public import proofs.«01_k».proof.Proof.Vals.Nearest
public import Idealize.ShloMosaic.Lib.ReduceAll

@[expose] public section

noncomputable section

namespace Cert.Pre_inputs_finite.Own

open Cert.Pre_inputs_finite Cert.Own
open Idealize.ShloMosaic Idealize.ShloMosaic.StableHlo

/-- The shapes fit. -/
theorem facts : Facts := ⟨by decide, by decide, by decide, by decide, by decide⟩

/-- A number whose size is below infinity is real. -/
theorem real_of_lt (x : EReal) (h : Ideal.cmp .olt (max x (-x)) (Ideal.ofBits .f32 0x7F800000#32) = 1#1) : x = (x.toReal : EReal) := by
  rw [ofBits_inf] at h
  have hlt : max x (-x) < ⊤ := by
    by_contra hn
    exact absurd h (by simp [Ideal.cmp, hn])
  induction x with
  | bot => simp at hlt
  | top => simp at hlt
  | coe x => rfl

variable [Facts]
open Facts

instance : Subsingleton S_.Idx := ⟨fun a b => funext fun i => i.elim0⟩

theorem entries (x : FVec Ideal S2x32x32x32 .f32) (e : FVec Ideal S1024x32 .f32) (h : fn (F := Ideal) x e = fun _ => 1#1) :
    (∀ j, x j = ((x j).toReal : EReal)) ∧ ∀ j, e j = ((e j).toReal : EReal) := by
  have h0 := IntOp.andi_eq_one.1 (congrFun h (fun a => a.elim0))
  exact ⟨fun j => real_of_lt _ (Host.reduce_andi_all _ _ _ _ _ h0.1 j), fun j => real_of_lt _ (Host.reduce_andi_all _ _ _ _ _ h0.2 j)⟩

end Cert.Pre_inputs_finite.Own

end
-- ==== Proof.Vals.Algebraic.lean ====
/- The kernel and the reference end with the same three results when their arguments are real. -/
module

public import proofs.«01_k».proof.Defs
public import proofs.«01_k».proof.Proof.Gen.KernelIdeal
public import proofs.«01_k».proof.Proof.Gen.ReferenceIdeal
public import proofs.«01_k».proof.Proof.Vals.KernelVal
public import proofs.«01_k».proof.Proof.Vals.RefOut
public import proofs.«01_k».proof.Proof.Vals.Finite

@[expose] public section

noncomputable section

namespace Cert.Proof

open Idealize.ShloMosaic Idealize.SL.Sem Cert.Own

section

variable (x : FVec Ideal Cert.KernelIdeal.S2x32x32x32 .f32) (e : FVec Ideal Cert.KernelIdeal.S1024x32 .f32)

/-- The code nearest to row `n`. -/
def codeOf (n : Fin 2048) : Fin 1024 := near (Cert.KernelIdeal.Own.uOf x n) (Cert.KernelIdeal.Own.wOf e)

/-- The common second result. -/
def codes : Vec Ideal Cert.KernelIdeal.S2048 .i32 := fun j => BitVec.ofNat 32 (codeOf x e (j 0)).val

/-- The common third result: the distances' squares, summed and scaled. -/
def loss : FVec Ideal Cert.KernelIdeal.S_ .f32 := fun _ =>
  (((∑ n, dsq (Cert.KernelIdeal.Own.uOf x n) (Cert.KernelIdeal.Own.wOf e (codeOf x e n))) * (1 / 262144) : ℝ) : EReal)

end

theorem algebraic : Cert.algebraic_KernelIdeal_ReferenceIdeal_pre_inputs_finite
    (hKernelIdeal := Cert.KernelIdeal.Gen.facts) (hReferenceIdeal := Cert.ReferenceIdeal.Gen.facts)
    (hPre_inputs_finite := Cert.Pre_inputs_finite.Own.facts) := by
  intro m g m' g' hpre hagree
  letI := Cert.Pre_inputs_finite.Own.facts
  have hfin := fun c => Cert.Pre_inputs_finite.Own.entries _ _ (hpre c)
  refine ⟨fun c => Cert.KernelIdeal.Own.inZ m c, fun c => codes (Cert.KernelIdeal.Own.inZ m c) (Cert.KernelIdeal.Own.inE m c),
    fun c => loss (Cert.KernelIdeal.Own.inZ m c) (Cert.KernelIdeal.Own.inE m c), ?_, ?_⟩
  · refine (θ_run _ _ _).mono (fun r h c => ?_) (Cert.KernelIdeal.Own.run_main m g)
    obtain ⟨f, hf, hb⟩ := h.1 c
    exact ⟨(hb _ (Cert.KernelIdeal.Own.mem_unscoped _ (by decide))).trans (Cert.KernelIdeal.Own.kernel_out0 m c f),
      (hb _ (Cert.KernelIdeal.Own.mem_unscoped _ (by decide))).trans (Cert.KernelIdeal.Own.kernel_out1 m c (hfin c).1 (hfin c).2 f hf),
      (hb _ (Cert.KernelIdeal.Own.mem_unscoped _ (by decide))).trans
        (funext fun j => Cert.KernelIdeal.Own.kernel_out2 m c (hfin c).1 (hfin c).2 f j),
      (hb _ (Cert.KernelIdeal.Own.mem_unscoped _ (by decide))).trans (Cert.KernelIdeal.Own.H5_arg0 m c f),
      (hb _ (Cert.KernelIdeal.Own.mem_unscoped _ (by decide))).trans (Cert.KernelIdeal.Own.H5_arg1 m c f)⟩
  · refine (θ_run _ _ _).mono (fun r h c => ?_) (Cert.ReferenceIdeal.Own.run_ops m' g')
    have h0 := (hagree c).1
    have h1 := (hagree c).2
    have hz : ∀ n i, Cert.ReferenceIdeal.Own.refRows (m' ((c.tc : Thread Cert.ReferenceIdeal.nD Cert.ReferenceIdeal.τ).loc Cert.ReferenceIdeal.main_arg0)) (ix2 n i)
        = (Cert.KernelIdeal.Own.uOf (Cert.KernelIdeal.Own.inZ m c) n i : EReal) := fun n i => by
      rw [h0]; exact Cert.KernelIdeal.Own.rowsOf_coe (hfin c).1 n i
    have he : ∀ k i, (m' ((c.tc : Thread Cert.ReferenceIdeal.nD Cert.ReferenceIdeal.τ).loc Cert.ReferenceIdeal.main_arg1) : FVec Ideal Cert.ReferenceIdeal.S1024x32 .f32) (ix2 k i)
        = (Cert.KernelIdeal.Own.wOf (Cert.KernelIdeal.Own.inE m c) k i : EReal) := fun k i => by
      rw [h1]; exact Cert.KernelIdeal.Own.wOf_coe (hfin c).2 k i
    exact ⟨(h c _).trans ((Cert.ReferenceIdeal.Own.out_v23 (fun b => m' (c, b)) _ _ hz he).trans h0),
      (h c _).trans (Cert.ReferenceIdeal.Own.out_v8 (fun b => m' (c, b)) _ _ hz he),
      (h c _).trans (funext fun y => Cert.ReferenceIdeal.Own.out_v22 (fun b => m' (c, b)) _ _ hz he y),
      (h c _).trans (Cert.ReferenceIdeal.Own.ops_arg0 _), (h c _).trans (Cert.ReferenceIdeal.Own.ops_arg1 _)⟩

end Cert.Proof

end
-- ==== Proof.lean ====
/- The claims, put together from the modules beside this one. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Ideal.Run
public import proofs.«01_k».proof.Proof.RefRun
public import proofs.«01_k».proof.Proof.Vals.Algebraic

@[expose] public section

noncomputable section

namespace Cert.Proof

open Idealize.ShloMosaic Idealize.SL.Sem

theorem frame_kernel : Cert.quiescent_Kernel := fun m g _ => Cert.Kernel.Own.frame_main m g

theorem frame_kernelIdeal : Cert.quiescent_KernelIdeal := fun m g _ => Cert.KernelIdeal.Own.frame_main m g

theorem frame_referenceIdeal : Cert.quiescent_ReferenceIdeal := fun m g _ => Cert.ReferenceIdeal.Own.frame_main m g

/-- The precondition's runs end as every other run does. -/
theorem frame_kernelIdeal_finite : Cert.quiescent_KernelIdeal_pre_inputs_finite
    (hKernelIdeal := Cert.KernelIdeal.Gen.facts) (hPre_inputs_finite := Cert.Pre_inputs_finite.Own.facts) :=
  fun m g _ => Cert.KernelIdeal.Own.frame_main m g

theorem frame_referenceIdeal_finite : Cert.quiescent_ReferenceIdeal_pre_inputs_finite
    (hReferenceIdeal := Cert.ReferenceIdeal.Gen.facts) (hPre_inputs_finite := Cert.Pre_inputs_finite.Own.facts) :=
  fun m g _ => Cert.ReferenceIdeal.Own.frame_main m g

theorem claim : Cert.Claim :=
  ⟨Cert.Kernel.Gen.facts, Cert.KernelIdeal.Gen.facts, Cert.ReferenceIdeal.Gen.facts, Cert.Pre_inputs_finite.Own.facts, frame_kernel,
    frame_kernelIdeal, frame_kernelIdeal_finite, frame_referenceIdeal, frame_referenceIdeal_finite, trivial, algebraic⟩

end Cert.Proof

end
